-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_codes [hPre_finite_codes : Cert.Pre_finite_codes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_codes [hPre_finite_codes : Cert.Pre_finite_codes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_codes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_codes [hKernelIdeal : Cert.KernelIdeal.Facts] [hPre_finite_codes : Cert.Pre_finite_codes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_codes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_codes [hReferenceIdeal : Cert.ReferenceIdeal.Facts] [hPre_finite_codes : Cert.Pre_finite_codes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_codes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_codes [hKernelIdeal : Cert.KernelIdeal.Facts] [hReferenceIdeal : Cert.ReferenceIdeal.Facts] [hPre_finite_codes : Cert.Pre_finite_codes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_codes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v22)) (v3 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_codes : Cert.Pre_finite_codes.Facts),
    quiescent_Kernel (hKernel := hKernel)
    ∧ quiescent_KernelIdeal (hKernelIdeal := hKernelIdeal)
    ∧ quiescent_KernelIdeal_pre_finite_codes (hKernelIdeal := hKernelIdeal) (hPre_finite_codes := hPre_finite_codes)
    ∧ quiescent_ReferenceIdeal (hReferenceIdeal := hReferenceIdeal)
    ∧ quiescent_ReferenceIdeal_pre_finite_codes (hReferenceIdeal := hReferenceIdeal) (hPre_finite_codes := hPre_finite_codes)
    ∧ preserves_Kernel_KernelIdeal
    ∧ algebraic_KernelIdeal_ReferenceIdeal_pre_finite_codes (hKernelIdeal := hKernelIdeal) (hReferenceIdeal := hReferenceIdeal) (hPre_finite_codes := hPre_finite_codes)
-- ==== Pre_finite_codes.lean ====
abbrev S8x1024x32 : Shape := ⟨3, ![8, 1024, 32]⟩
abbrev S8192x32 : Shape := ⟨2, ![8192, 32]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel

variable [Facts]

def fn {F : FTy → Type} [FloatOps F] (main_arg0 : FVec F S8x1024x32 .f32) (main_arg1 : FVec F S8192x32 .f32) : IVec S_ 1 :=
  let main_v0 : FVec F S8192x32 .f32 := Host.absf main_arg1
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  main_v3
-- ==== Kernel.lean ====
abbrev S8x1024x32 : Shape := ⟨3, ![8, 1024, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S32x8192 : Shape := ⟨2, ![32, 8192]⟩
abbrev S8192x96 : Shape := ⟨2, ![8192, 96]⟩
abbrev S1x1 : Shape := ⟨2, ![1, 1]⟩
abbrev S256x32 : Shape := ⟨2, ![256, 32]⟩
abbrev S256x1 : Shape := ⟨2, ![256, 1]⟩
abbrev S256x8192 : Shape := ⟨2, ![256, 8192]⟩
abbrev S256x2048 : Shape := ⟨2, ![256, 2048]⟩
abbrev S256 : Shape := ⟨1, ![256]⟩
abbrev S1x2048 : Shape := ⟨2, ![1, 2048]⟩
abbrev S256x96 : Shape := ⟨2, ![256, 96]⟩
abbrev S1x256x32 : Shape := ⟨3, ![1, 256, 32]⟩
abbrev S1 : Shape := ⟨1, ![1]⟩
abbrev S1x1x1 : Shape := ⟨3, ![1, 1, 1]⟩
abbrev S1x256 : Shape := ⟨2, ![1, 256]⟩
abbrev S1x1x8192 : Shape := ⟨3, ![1, 1, 8192]⟩
abbrev S8x1024 : Shape := ⟨2, ![8, 1024]⟩

abbrev nBuf : Space → Nat
  | .hbm => 31
  | .vmem => 15
  | .smem => 0
  | _ => 0

abbrev bufTy : (tb : Table) → Fin (tcTables nBuf tb) → BufTy
  | .hbm, ⟨0, _⟩ => ⟨S8x1024x32, .f32⟩
  | .hbm, ⟨1, _⟩ => ⟨S8192x32, .f32⟩
  | .hbm, ⟨2, _⟩ => ⟨S8192x32, .f32⟩
  | .hbm, ⟨3, _⟩ => ⟨S8192x32, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S8192x32, .bf16⟩
  | .hbm, ⟨12, _⟩ => ⟨S32x8192, .bf16⟩
  | .hbm, ⟨13, _⟩ => ⟨S8192x32, .bf16⟩
  | .hbm, ⟨14, _⟩ => ⟨S8192x32, .f32⟩
  | .hbm, ⟨15, _⟩ => ⟨S8192x32, .f32⟩
  | .hbm, ⟨16, _⟩ => ⟨S8192x32, .bf16⟩
  | .hbm, ⟨17, _⟩ => ⟨S8192x32, .f32⟩
  | .hbm, ⟨18, _⟩ => ⟨S8192x32, .f32⟩
  | .hbm, ⟨19, _⟩ => ⟨S8192x32, .bf16⟩
  | .hbm, ⟨20, _⟩ => ⟨S8192x96, .bf16⟩
  | .hbm, ⟨21, _⟩ => ⟨S8192, .f32⟩
  | .hbm, ⟨22, _⟩ => ⟨S1x8192, .f32⟩
  | .hbm, ⟨23, _⟩ => ⟨S8192x32, .f32⟩
  | .hbm, ⟨24, _⟩ => ⟨S8192x1, .i32⟩
  | .hbm, ⟨25, _⟩ => ⟨S1x1, .f32⟩
  | .hbm, ⟨26, _⟩ => ⟨S1x1, .i32⟩
  | .hbm, ⟨27, _⟩ => ⟨S8x1024x32, .f32⟩
  | .hbm, ⟨28, _⟩ => ⟨S_, .f32⟩
  | .hbm, ⟨29, _⟩ => ⟨S_, .i32⟩
  | .hbm, ⟨30, _⟩ => ⟨S8x1024, .i32⟩
  | .local _ .vmem, ⟨0, _⟩ => ⟨S256x32, .f32⟩
  | .local _ .vmem, ⟨1, _⟩ => ⟨S256x32, .f32⟩
  | .local _ .vmem, ⟨2, _⟩ => ⟨S32x8192, .bf16⟩
  | .local _ .vmem, ⟨3, _⟩ => ⟨S8192x96, .bf16⟩
  | .local _ .vmem, ⟨4, _⟩ => ⟨S256x1, .f32⟩
  | .local _ .vmem, ⟨5, _⟩ => ⟨S256x1, .f32⟩
  | .local _ .vmem, ⟨6, _⟩ => ⟨S1x8192, .f32⟩
  | .local _ .vmem, ⟨7, _⟩ => ⟨S1x8192, .f32⟩
  | .local _ .vmem, ⟨8, _⟩ => ⟨S256x32, .f32⟩
  | .local _ .vmem, ⟨9, _⟩ => ⟨S256x32, .f32⟩
  | .local _ .vmem, ⟨10, _⟩ => ⟨S256x1, .i32⟩
  | .local _ .vmem, ⟨11, _⟩ => ⟨S256x1, .i32⟩
  | .local _ .vmem, ⟨12, _⟩ => ⟨S1x1, .f32⟩
  | .local _ .vmem, ⟨13, _⟩ => ⟨S1x1, .i32⟩
  | .local _ .vmem, ⟨14, _⟩ => ⟨S1x8192, .f32⟩
  | _, _ => ⟨S8x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev main_v19_2 : Ref sig .tc := ⟨.hbm, 25, rfl⟩
abbrev main_v19_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c31_i32 : BitVec 32 := 31#32
  let v124 : BitVec 1 := Scalar.cmpi .eq arg0 c31_i32
  let v125 : BitVec 32 := Scalar.extui v124
  let c0_i32_43 : BitVec 32 := 0#32
  let v126 : BitVec 1 := Scalar.cmpi .ne v125 c0_i32_43
  v126

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8x1024x32 : Shape := ⟨3, ![8, 1024, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S32x8192 : Shape := ⟨2, ![32, 8192]⟩
abbrev S8192x8192 : Shape := ⟨2, ![8192, 8192]⟩
abbrev S1x8192 : Shape := ⟨2, ![1, 8192]⟩
abbrev S1 : Shape := ⟨1, ![1]⟩
abbrev S1x1 : Shape := ⟨2, ![1, 1]⟩
abbrev S8x1024 : Shape := ⟨2, ![8, 1024]⟩

abbrev nBuf : Space → Nat
  | .hbm => 90
  | .vmem => 0
  | .smem => 0
  | _ => 0

abbrev bufTy : (tb : Table) → Fin (tcTables nBuf tb) → BufTy
  | .hbm, ⟨0, _⟩ => ⟨S8x1024x32, .f32⟩
  | .hbm, ⟨1, _⟩ => ⟨S8192x32, .f32⟩
  | .hbm, ⟨2, _⟩ => ⟨S8192x32, .f32⟩
  | .hbm, ⟨3, _⟩ => ⟨S8192x32, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x32, .f32⟩
  | .hbm, ⟨9, _⟩ => ⟨S8192x32, .f32⟩
  | .hbm, ⟨10, _⟩ => ⟨S32x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x32, .f32⟩
  | .hbm, ⟨15, _⟩ => ⟨S_, .f32⟩
  | .hbm, ⟨16, _⟩ => ⟨S8192, .f32⟩
  | .hbm, ⟨17, _⟩ => ⟨S1x8192, .f32⟩
  | .hbm, ⟨18, _⟩ => ⟨S8192x8192, .f32⟩
  | .hbm, ⟨19, _⟩ => ⟨S8192x8192, .f32⟩
  | .hbm, ⟨20, _⟩ => ⟨S8192x8192, .i32⟩
  | .hbm, ⟨21, _⟩ => ⟨S_, .f32⟩
  | .hbm, ⟨22, _⟩ => ⟨S_, .i32⟩
  | .hbm, ⟨23, _⟩ => ⟨S8192, .f32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S_, .i32⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S8192x1, .i32⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S8192, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S8192, .i32⟩
  | .hbm, ⟨50, _⟩ => ⟨S8192, .i1⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .i32⟩
  | .hbm, ⟨55, _⟩ => ⟨S8192x1, .i32⟩
  | .hbm, ⟨56, _⟩ => ⟨S1, .i32⟩
  | .hbm, ⟨57, _⟩ => ⟨S_, .i32⟩
  | .hbm, ⟨58, _⟩ => ⟨S8192x1, .i32⟩
  | .hbm, ⟨59, _⟩ => ⟨S8192x1, .i1⟩
  | .hbm, ⟨60, _⟩ => ⟨S1x1, .i32⟩
  | .hbm, ⟨61, _⟩ => ⟨S8192x1, .i32⟩
  | .hbm, ⟨62, _⟩ => ⟨S8192x1, .i1⟩
  | .hbm, ⟨63, _⟩ => ⟨S8192x1, .i1⟩
  | .hbm, ⟨64, _⟩ => ⟨S_, .i1⟩
  | .hbm, ⟨65, _⟩ => ⟨S8192, .i1⟩
  | .hbm, ⟨66, _⟩ => ⟨S8192x32, .f32⟩
  | .hbm, ⟨67, _⟩ => ⟨S8192x32, .i1⟩
  | .hbm, ⟨68, _⟩ => ⟨S_, .f32⟩
  | .hbm, ⟨69, _⟩ => ⟨S8192x32, .f32⟩
  | .hbm, ⟨70, _⟩ => ⟨S8192x32, .f32⟩
  | .hbm, ⟨71, _⟩ => ⟨S8x1024x32, .f32⟩
  | .hbm, ⟨72, _⟩ => ⟨S8x1024x32, .f32⟩
  | .hbm, ⟨73, _⟩ => ⟨S8x1024x32, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S8x1024x32, .f32⟩
  | .hbm, ⟨79, _⟩ => ⟨S8x1024x32, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S8x1024x32, .f32⟩
  | .hbm, ⟨88, _⟩ => ⟨S8x1024x32, .f32⟩
  | .hbm, ⟨89, _⟩ => ⟨S8x1024, .i32⟩
  | _, _ => ⟨S8x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_c_2 : Ref sig .tc := ⟨.hbm, 27, rfl⟩
abbrev main_call1_v0 : Ref sig .tc := ⟨.hbm, 28, rfl⟩
abbrev main_call1_v1 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_call2_cst : Ref sig .tc := ⟨.hbm, 68, rfl⟩
abbrev main_call2_v15 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_8 : Ref sig .tc := ⟨.hbm, 74, rfl⟩
abbrev main_v34 : Ref sig .tc := ⟨.hbm, 75, rfl⟩
abbrev main_cst_9 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_10 : Ref sig .tc := ⟨.hbm, 80, rfl⟩
abbrev main_v38 : Ref sig .tc := ⟨.hbm, 81, rfl⟩
abbrev main_cst_11 : Ref sig .tc := ⟨.hbm, 82, rfl⟩
abbrev main_v39 : Ref sig .tc := ⟨.hbm, 83, rfl⟩
abbrev main_cst_12 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩

abbrev nD : Nat := 1
abbrev τ : Topo := Topo.v7x

variable {F : FTy → Type} [FloatOps F]
-- ==== Proof.RefRun.lean ====
/- The run of the reference: what its four result arrays end holding, each a named term over the two
   arguments, built of the operations the program is printed with. -/
module

public import proofs.«01_k».proof.Proof.Gen.ReferenceIdeal
public import Idealize.ShloMosaic.Lib.Claim
public import Idealize.ShloMosaic.PureOps.Ideal.Laws

@[expose] public section

set_option maxRecDepth 16384

noncomputable section

namespace Cert.ReferenceIdeal.Value

open Idealize.ShloMosaic Idealize.ShloMosaic.TcCoe Idealize.SL.Sem Cert.ReferenceIdeal

/-- The vectors to be coded, one a row. -/
def rows (x : FVec Ideal S8x1024x32 .f32) : FVec Ideal S8192x32 .f32 :=
  shapeCast S8192x32 x Gen.shapeCasts_S8x1024x32_S8192x32

/-- The squared length of every row, less twice its product with every code. -/
def gap (z e : FVec Ideal S8192x32 .f32) : FVec Ideal S8192x8192 .f32 :=
  subf
    (broadcastInDim S8192x8192 ![0, 1] Gen.bcast_S8192x1_S8192x8192_0_1
      (broadcastInDim S8192x1 ![0] Gen.bcast_S8192_S8192x1_0
        (Host.reduceAdd (mulf z z) (constant S_ .f32 0x00000000#32) Gen.reducesTo_S8192x32_S8192_d1 Gen.h_S_)))
    (Host.dotGeneral dot_S8192x32_S32x8192_S8192x8192_1_0_0_1_n_n none
      (mulf (broadcastInDim S8192x32 ![] Gen.bcast_S_S8192x32 (constant S_ .f32 0x40000000#32)) z)
      (transpose S32x8192 [1, 0] e Gen.transposes_S8192x32_S32x8192_1_0))

/-- The distance of every row to every code. -/
def dist (z e : FVec Ideal S8192x32 .f32) : FVec Ideal S8192x8192 .f32 :=
  addf (gap z e)
    (broadcastInDim S8192x8192 ![0, 1] Gen.bcast_S1x8192_S8192x8192_0_1
      (broadcastInDim S1x8192 ![1] Gen.bcast_S8192_S1x8192_1
        (Host.reduceAdd (mulf e e) (constant S_ .f32 0x00000000#32) Gen.reducesTo_S8192x32_S8192_d1 Gen.h_S_)))

/-- The place of the least entry of every row of a table. -/
def least (d : FVec Ideal S8192x8192 .f32) : IVec S8192 32 := fun j =>
  (Host.argReduce reducer_argmin_f32_i32 d (iotaInDim S8192x8192 32 1) (constant S_ .f32 0x7F800000#32)
    (constantI S_ 32 0#32) Gen.reducesTo_S8192x8192_S8192_d1 Gen.h_S_ j).2

/-- A place below zero is counted from the end of the table of codes. -/
def wrap (i : IVec S8192 32) : IVec S8192 32 :=
  select (cmpi .slt i (broadcastInDim S8192 ![] Gen.bcast_S_S8192 (constantI S_ 32 0#32)))
    (addi i (broadcastInDim S8192 ![] Gen.bcast_S_S8192 (constantI S_ 32 8192#32))) i

/-- How many rows took each code. -/
def uses (i : IVec S8192 32) : IVec S8192 32 :=
  Host.scatter scatter_S8192_S8192x1_S8192_n_0_0_1 IntOp.addi
    (broadcastInDim S8192 ![] Gen.bcast_S_S8192 (constantI S_ 32 0#32))
    (broadcastInDim S8192x1 ![0] Gen.bcast_S8192_S8192x1_0
      (wrap (maxsi (broadcastInDim S8192 ![] Gen.bcast_S_S8192 (constantI S_ 32 0#32)) i)))
    (broadcastInDim S8192 ![] Gen.bcast_S_S8192 (constantI S_ 32 1#32))

/-- How many codes no row took. -/
def unused (i : IVec S8192 32) : IVec S_ 32 :=
  Host.reduce IntOp.addi
    (extui 32 (cmpi .eq (uses i) (broadcastInDim S8192 ![] Gen.bcast_S_S8192 (constantI S_ 32 0#32))) Gen.natLt_1_32)
    (constantI S_ 32 0#32) Gen.reducesTo_S8192_S_d0 Gen.h_S_

/-- A place of the table of codes as a column of words. -/
def column (i : IVec S8192 32) : IVec S8192x1 32 := broadcastInDim S8192x1 ![0] Gen.bcast_S8192_S8192x1_0 (wrap i)

/-- Which places lie in the table of codes. -/
def inside (i : IVec S8192 32) : IVec S8192 1 :=
  Host.reduce IntOp.andi
    (andi (cmpi .sge (column i) (broadcastInDim S8192x1 ![] Gen.bcast_S_S8192x1 (constantI S_ 32 0#32)))
      (cmpi .sle (column i) (broadcastInDim S8192x1 ![0, 1] Gen.bcast_S1x1_S8192x1_0_1
        (broadcastInDim S1x1 ![1] Gen.bcast_S1_S1x1_1 (constantI S1 32 8191#32)))))
    (constantI S_ 1 1#1) Gen.reducesTo_S8192x1_S8192_d1 Gen.h_S_

/-- The codes at the places given, a row each. -/
def taken (e : FVec Ideal S8192x32 .f32) (i : IVec S8192 32) : FVec Ideal S8192x32 .f32 :=
  select (broadcastInDim S8192x32 ![0] Gen.bcast_S8192_S8192x32_0 (inside i))
    (Host.gather gather_S8192x32_S8192x1_S8192x32_1_0_n_n_0_1_132 e (column i))
    (broadcastInDim S8192x32 ![] Gen.bcast_S_S8192x32 (constant S_ .f32 0x7FC00000#32))

/-- The codes the rows took, in the arguments' layout. -/
def coded (x : FVec Ideal S8x1024x32 .f32) (e : FVec Ideal S8192x32 .f32) : FVec Ideal S8x1024x32 .f32 :=
  shapeCast S8x1024x32 (taken e (least (dist (rows x) e))) Gen.shapeCasts_S8192x32_S8x1024x32

/-- The mean of the squares of an array of 8 by 1024 by 32. -/
def meanSq (d : FVec Ideal S8x1024x32 .f32) : FVec Ideal S_ .f32 :=
  Host.divf (Host.reduceAdd (mulf d d) (constant S_ .f32 0x00000000#32) Gen.reducesTo_S8x1024x32_S_d0_1_2 Gen.h_S_)
    (constant S_ .f32 0x48800000#32)

/-- The loss. -/
def loss (x q : FVec Ideal S8x1024x32 .f32) : FVec Ideal S_ .f32 :=
  addf (meanSq (subf q x)) (mulf (constant S_ .f32 0x3E800000#32) (meanSq (subf x q)))

/-- The first result. -/
def out (x q : FVec Ideal S8x1024x32 .f32) : FVec Ideal S8x1024x32 .f32 := addf x (subf q x)

/-- The places the rows took, in the arguments' layout. -/
def places (x : FVec Ideal S8x1024x32 .f32) (e : FVec Ideal S8192x32 .f32) : IVec S8x1024 32 :=
  shapeCast S8x1024 (least (dist (rows x) e)) Gen.shapeCasts_S8192_S8x1024

/-! ## The program as five stretches of operations -/

variable {F : FTy → Type} [FloatOps F]

/-- The operations of the table of distances. -/
abbrev distOps : List (HloOp τ sig (Elt F)) :=
  [ StableHlo.reshape main_arg0 main_v0 (rfl : (.f32 : EltTy) = .f32) Gen.shapeCasts_S8x1024x32_S8192x32,
    StableHlo.binary main_v0 main_v0 main_v1 (mulf : (⟨S8192x32, .f32⟩ : BufTy).Contents (Elt F) → (⟨S8192x32, .f32⟩ : BufTy).Contents (Elt F) → (⟨S8192x32, .f32⟩ : BufTy).Contents (Elt F)),
    StableHlo.nullary main_cst (constant (F := F) S_ .f32 0x00000000#32),
    StableHlo.binary main_v1 main_cst main_v2 ((fun x v => Host.reduceAdd x v Gen.reducesTo_S8192x32_S8192_d1 Gen.h_S_) : (⟨S8192x32, .f32⟩ : BufTy).Contents (Elt F) → (⟨S_, .f32⟩ : BufTy).Contents (Elt F) → (⟨S8192, .f32⟩ : BufTy).Contents (Elt F)),
    StableHlo.unary main_v2 main_v3 (broadcastInDim S8192x1 ![0] Gen.bcast_S8192_S8192x1_0 : (⟨S8192, .f32⟩ : BufTy).Contents (Elt F) → (⟨S8192x1, .f32⟩ : BufTy).Contents (Elt F)),
    StableHlo.nullary main_cst_0 (constant (F := F) S_ .f32 0x40000000#32),
    StableHlo.unary main_cst_0 main_v4 (broadcastInDim S8192x32 ![] Gen.bcast_S_S8192x32 : (⟨S_, .f32⟩ : BufTy).Contents (Elt F) → (⟨S8192x32, .f32⟩ : BufTy).Contents (Elt F)),
    StableHlo.binary main_v4 main_v0 main_v5 (mulf : (⟨S8192x32, .f32⟩ : BufTy).Contents (Elt F) → (⟨S8192x32, .f32⟩ : BufTy).Contents (Elt F) → (⟨S8192x32, .f32⟩ : BufTy).Contents (Elt F)),
    StableHlo.unary main_arg1 main_v6 ((transpose S32x8192 [1, 0] · Gen.transposes_S8192x32_S32x8192_1_0) : (⟨S8192x32, .f32⟩ : BufTy).Contents (Elt F) → (⟨S32x8192, .f32⟩ : BufTy).Contents (Elt F)),
    StableHlo.binary main_v5 main_v6 main_v7 ((fun l r => Host.dotGeneral dot_S8192x32_S32x8192_S8192x8192_1_0_0_1_n_n none l r) : (⟨S8192x32, .f32⟩ : BufTy).Contents (Elt F) → (⟨S32x8192, .f32⟩ : BufTy).Contents (Elt F) → (⟨S8192x8192, .f32⟩ : BufTy).Contents (Elt F)),
    StableHlo.unary main_v3 main_v8 (broadcastInDim S8192x8192 ![0, 1] Gen.bcast_S8192x1_S8192x8192_0_1 : (⟨S8192x1, .f32⟩ : BufTy).Contents (Elt F) → (⟨S8192x8192, .f32⟩ : BufTy).Contents (Elt F)),
    StableHlo.binary main_v8 main_v7 main_v9 (subf : (⟨S8192x8192, .f32⟩ : BufTy).Contents (Elt F) → (⟨S8192x8192, .f32⟩ : BufTy).Contents (Elt F) → (⟨S8192x8192, .f32⟩ : BufTy).Contents (Elt F)),
    StableHlo.binary main_arg1 main_arg1 main_v10 (mulf : (⟨S8192x32, .f32⟩ : BufTy).Contents (Elt F) → (⟨S8192x32, .f32⟩ : BufTy).Contents (Elt F) → (⟨S8192x32, .f32⟩ : BufTy).Contents (Elt F)),
    StableHlo.nullary main_cst_1 (constant (F := F) S_ .f32 0x00000000#32),
    StableHlo.binary main_v10 main_cst_1 main_v11 ((fun x v => Host.reduceAdd x v Gen.reducesTo_S8192x32_S8192_d1 Gen.h_S_) : (⟨S8192x32, .f32⟩ : BufTy).Contents (Elt F) → (⟨S_, .f32⟩ : BufTy).Contents (Elt F) → (⟨S8192, .f32⟩ : BufTy).Contents (Elt F)),
    StableHlo.unary main_v11 main_v12 (broadcastInDim S1x8192 ![1] Gen.bcast_S8192_S1x8192_1 : (⟨S8192, .f32⟩ : BufTy).Contents (Elt F) → (⟨S1x8192, .f32⟩ : BufTy).Contents (Elt F)),
    StableHlo.unary main_v12 main_v13 (broadcastInDim S8192x8192 ![0, 1] Gen.bcast_S1x8192_S8192x8192_0_1 : (⟨S1x8192, .f32⟩ : BufTy).Contents (Elt F) → (⟨S8192x8192, .f32⟩ : BufTy).Contents (Elt F)),
    StableHlo.binary main_v9 main_v13 main_v14 (addf : (⟨S8192x8192, .f32⟩ : BufTy).Contents (Elt F) → (⟨S8192x8192, .f32⟩ : BufTy).Contents (Elt F) → (⟨S8192x8192, .f32⟩ : BufTy).Contents (Elt F)) ]

/-- The operations of the search of every row. -/
abbrev leastOps : List (HloOp τ sig (Elt F)) :=
  [ StableHlo.TRef.nullary main_call0.v0 (iotaInDim S8192x8192 32 1),
    StableHlo.TRef.nullary main_call0.cst (constant (F := F) S_ .f32 0x7F800000#32),
    StableHlo.TRef.nullary main_call0.c (constantI S_ 32 0#32),
    StableHlo.TRef.quaternary (StableHlo.TRef.of main_v14) main_call0.v0 main_call0.cst main_call0.c main_call0.v1_0 (fun x y u v j => (Host.argReduce (F := F) reducer_argmin_f32_i32 x y u v Gen.reducesTo_S8192x8192_S8192_d1 Gen.h_S_ j).1),
    StableHlo.TRef.quaternary (StableHlo.TRef.of main_v14) main_call0.v0 main_call0.cst main_call0.c main_call0.v1_1 (fun x y u v j => (Host.argReduce (F := F) reducer_argmin_f32_i32 x y u v Gen.reducesTo_S8192x8192_S8192_d1 Gen.h_S_ j).2) ]

/-- The operations of the count of codes no row took. -/
abbrev unusedOps : List (HloOp τ sig (Elt F)) :=
  [ StableHlo.nullary main_c (constantI S_ 32 0#32),
    StableHlo.unary main_c main_v16 (broadcastInDim S8192 ![] Gen.bcast_S_S8192 : (⟨S_, .i32⟩ : BufTy).Contents (Elt F) → (⟨S8192, .i32⟩ : BufTy).Contents (Elt F)),
    StableHlo.nullary main_c_2 (constantI S_ 32 0#32),
    StableHlo.TRef.unary (StableHlo.TRef.of main_c_2) main_call1.v0 id,
    StableHlo.TRef.unary main_call1.v0 main_call1.v1 (broadcastInDim S8192 ![] Gen.bcast_S_S8192),
    StableHlo.TRef.binary main_call1.v1 (StableHlo.TRef.of main_v15) main_call1.v2 maxsi,
    StableHlo.nullary main_c_3 (constantI S_ 32 0#32),
    StableHlo.unary main_c_3 main_v18 (broadcastInDim S8192 ![] Gen.bcast_S_S8192 : (⟨S_, .i32⟩ : BufTy).Contents (Elt F) → (⟨S8192, .i32⟩ : BufTy).Contents (Elt F)),
    StableHlo.binary main_v17 main_v18 main_v19 (cmpi .slt : (⟨S8192, .i32⟩ : BufTy).Contents (Elt F) → (⟨S8192, .i32⟩ : BufTy).Contents (Elt F) → (⟨S8192, .i1⟩ : BufTy).Contents (Elt F)),
    StableHlo.nullary main_c_4 (constantI S_ 32 8192#32),
    StableHlo.unary main_c_4 main_v20 (broadcastInDim S8192 ![] Gen.bcast_S_S8192 : (⟨S_, .i32⟩ : BufTy).Contents (Elt F) → (⟨S8192, .i32⟩ : BufTy).Contents (Elt F)),
    StableHlo.binary main_v17 main_v20 main_v21 (addi : (⟨S8192, .i32⟩ : BufTy).Contents (Elt F) → (⟨S8192, .i32⟩ : BufTy).Contents (Elt F) → (⟨S8192, .i32⟩ : BufTy).Contents (Elt F)),
    StableHlo.ternary main_v19 main_v21 main_v17 main_v22 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v22 main_v23 (broadcastInDim S8192x1 ![0] Gen.bcast_S8192_S8192x1_0 : (⟨S8192, .i32⟩ : BufTy).Contents (Elt F) → (⟨S8192x1, .i32⟩ : BufTy).Contents (Elt F)),
    StableHlo.nullary main_c_5 (constantI S_ 32 1#32),
    StableHlo.unary main_c_5 main_v24 (broadcastInDim S8192 ![] Gen.bcast_S_S8192 : (⟨S_, .i32⟩ : BufTy).Contents (Elt F) → (⟨S8192, .i32⟩ : BufTy).Contents (Elt F)),
    StableHlo.ternary main_v16 main_v23 main_v24 main_v25 ((fun x i u => Host.scatter scatter_S8192_S8192x1_S8192_n_0_0_1 IntOp.addi x i u) : (⟨S8192, .i32⟩ : BufTy).Contents (Elt F) → (⟨S8192x1, .i32⟩ : BufTy).Contents (Elt F) → (⟨S8192, .i32⟩ : BufTy).Contents (Elt F) → (⟨S8192, .i32⟩ : BufTy).Contents (Elt F)),
    StableHlo.nullary main_c_6 (constantI S_ 32 0#32),
    StableHlo.unary main_c_6 main_v26 (broadcastInDim S8192 ![] Gen.bcast_S_S8192 : (⟨S_, .i32⟩ : BufTy).Contents (Elt F) → (⟨S8192, .i32⟩ : BufTy).Contents (Elt F)),
    StableHlo.binary main_v25 main_v26 main_v27 (cmpi .eq : (⟨S8192, .i32⟩ : BufTy).Contents (Elt F) → (⟨S8192, .i32⟩ : BufTy).Contents (Elt F) → (⟨S8192, .i1⟩ : BufTy).Contents (Elt F)),
    StableHlo.unary main_v27 main_v28 ((extui 32 · Gen.natLt_1_32) : (⟨S8192, .i1⟩ : BufTy).Contents (Elt F) → (⟨S8192, .i32⟩ : BufTy).Contents (Elt F)),
    StableHlo.nullary main_c_7 (constantI S_ 32 0#32),
    StableHlo.binary main_v28 main_c_7 main_v29 ((fun x v => Host.reduce IntOp.addi x v Gen.reducesTo_S8192_S_d0 Gen.h_S_) : (⟨S8192, .i32⟩ : BufTy).Contents (Elt F) → (⟨S_, .i32⟩ : BufTy).Contents (Elt F) → (⟨S_, .i32⟩ : BufTy).Contents (Elt F)) ]

/-- The operations that take the codes. -/
abbrev takenOps : List (HloOp τ sig (Elt F)) :=
  [ StableHlo.TRef.nullary main_call2.c (constantI S_ 32 0#32),
    StableHlo.TRef.unary main_call2.c main_call2.v0 (broadcastInDim S8192 ![] Gen.bcast_S_S8192),
    StableHlo.TRef.binary (StableHlo.TRef.of main_v15) main_call2.v0 main_call2.v1 (cmpi .slt),
    StableHlo.TRef.nullary main_call2.c_0 (constantI S_ 32 8192#32),
    StableHlo.TRef.unary main_call2.c_0 main_call2.v2 (broadcastInDim S8192 ![] Gen.bcast_S_S8192),
    StableHlo.TRef.binary (StableHlo.TRef.of main_v15) main_call2.v2 main_call2.v3 addi,
    StableHlo.TRef.ternary main_call2.v1 main_call2.v3 (StableHlo.TRef.of main_v15) main_call2.call0.v0 select,
    StableHlo.TRef.unary main_call2.call0.v0 main_call2.v5 (broadcastInDim S8192x1 ![0] Gen.bcast_S8192_S8192x1_0),
    StableHlo.TRef.nullary main_call2.c_1 (constantI S1 32 8191#32),
    StableHlo.TRef.nullary main_call2.c_2 (constantI S_ 32 0#32),
    StableHlo.TRef.unary main_call2.c_2 main_call2.v6 (broadcastInDim S8192x1 ![] Gen.bcast_S_S8192x1),
    StableHlo.TRef.binary main_call2.v5 main_call2.v6 main_call2.v7 (cmpi .sge),
    StableHlo.TRef.unary main_call2.c_1 main_call2.v8 (broadcastInDim S1x1 ![1] Gen.bcast_S1_S1x1_1),
    StableHlo.TRef.unary main_call2.v8 main_call2.v9 (broadcastInDim S8192x1 ![0, 1] Gen.bcast_S1x1_S8192x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v Gen.reducesTo_S8192x1_S8192_d1 Gen.h_S_),
    StableHlo.TRef.binary (StableHlo.TRef.of main_arg1) main_call2.v5 main_call2.v13 (fun x i => Host.gather gather_S8192x32_S8192x1_S8192x32_1_0_n_n_0_1_132 x i),
    StableHlo.TRef.unary main_call2.v12 main_call2.v14 (broadcastInDim S8192x32 ![0] Gen.bcast_S8192_S8192x32_0),
    StableHlo.TRef.nullary main_call2.cst (constant (F := F) S_ .f32 0x7FC00000#32),
    StableHlo.TRef.unary main_call2.cst main_call2.v15 (broadcastInDim S8192x32 ![] Gen.bcast_S_S8192x32),
    StableHlo.TRef.ternary main_call2.v14 main_call2.v13 main_call2.v15 main_call2.v16 select ]

/-- The operations of the three results that are left. -/
abbrev closeOps : List (HloOp τ sig (Elt F)) :=
  [ StableHlo.reshape main_v30 main_v31 (rfl : (.f32 : EltTy) = .f32) Gen.shapeCasts_S8192x32_S8x1024x32,
    StableHlo.binary main_v31 main_arg0 main_v32 (subf : (⟨S8x1024x32, .f32⟩ : BufTy).Contents (Elt F) → (⟨S8x1024x32, .f32⟩ : BufTy).Contents (Elt F) → (⟨S8x1024x32, .f32⟩ : BufTy).Contents (Elt F)),
    StableHlo.binary main_v32 main_v32 main_v33 (mulf : (⟨S8x1024x32, .f32⟩ : BufTy).Contents (Elt F) → (⟨S8x1024x32, .f32⟩ : BufTy).Contents (Elt F) → (⟨S8x1024x32, .f32⟩ : BufTy).Contents (Elt F)),
    StableHlo.nullary main_cst_8 (constant (F := F) S_ .f32 0x00000000#32),
    StableHlo.binary main_v33 main_cst_8 main_v34 ((fun x v => Host.reduceAdd x v Gen.reducesTo_S8x1024x32_S_d0_1_2 Gen.h_S_) : (⟨S8x1024x32, .f32⟩ : BufTy).Contents (Elt F) → (⟨S_, .f32⟩ : BufTy).Contents (Elt F) → (⟨S_, .f32⟩ : BufTy).Contents (Elt F)),
    StableHlo.nullary main_cst_9 (constant (F := F) S_ .f32 0x48800000#32),
    StableHlo.binary main_v34 main_cst_9 main_v35 (Host.divf : (⟨S_, .f32⟩ : BufTy).Contents (Elt F) → (⟨S_, .f32⟩ : BufTy).Contents (Elt F) → (⟨S_, .f32⟩ : BufTy).Contents (Elt F)),
    StableHlo.binary main_arg0 main_v31 main_v36 (subf : (⟨S8x1024x32, .f32⟩ : BufTy).Contents (Elt F) → (⟨S8x1024x32, .f32⟩ : BufTy).Contents (Elt F) → (⟨S8x1024x32, .f32⟩ : BufTy).Contents (Elt F)),
    StableHlo.binary main_v36 main_v36 main_v37 (mulf : (⟨S8x1024x32, .f32⟩ : BufTy).Contents (Elt F) → (⟨S8x1024x32, .f32⟩ : BufTy).Contents (Elt F) → (⟨S8x1024x32, .f32⟩ : BufTy).Contents (Elt F)),
    StableHlo.nullary main_cst_10 (constant (F := F) S_ .f32 0x00000000#32),
    StableHlo.binary main_v37 main_cst_10 main_v38 ((fun x v => Host.reduceAdd x v Gen.reducesTo_S8x1024x32_S_d0_1_2 Gen.h_S_) : (⟨S8x1024x32, .f32⟩ : BufTy).Contents (Elt F) → (⟨S_, .f32⟩ : BufTy).Contents (Elt F) → (⟨S_, .f32⟩ : BufTy).Contents (Elt F)),
    StableHlo.nullary main_cst_11 (constant (F := F) S_ .f32 0x48800000#32),
    StableHlo.binary main_v38 main_cst_11 main_v39 (Host.divf : (⟨S_, .f32⟩ : BufTy).Contents (Elt F) → (⟨S_, .f32⟩ : BufTy).Contents (Elt F) → (⟨S_, .f32⟩ : BufTy).Contents (Elt F)),
    StableHlo.nullary main_cst_12 (constant (F := F) S_ .f32 0x3E800000#32),
    StableHlo.binary main_cst_12 main_v39 main_v40 (mulf : (⟨S_, .f32⟩ : BufTy).Contents (Elt F) → (⟨S_, .f32⟩ : BufTy).Contents (Elt F) → (⟨S_, .f32⟩ : BufTy).Contents (Elt F)),
    StableHlo.binary main_v35 main_v40 main_v41 (addf : (⟨S_, .f32⟩ : BufTy).Contents (Elt F) → (⟨S_, .f32⟩ : BufTy).Contents (Elt F) → (⟨S_, .f32⟩ : BufTy).Contents (Elt F)),
    StableHlo.binary main_v31 main_arg0 main_v42 (subf : (⟨S8x1024x32, .f32⟩ : BufTy).Contents (Elt F) → (⟨S8x1024x32, .f32⟩ : BufTy).Contents (Elt F) → (⟨S8x1024x32, .f32⟩ : BufTy).Contents (Elt F)),
    StableHlo.binary main_arg0 main_v42 main_v43 (addf : (⟨S8x1024x32, .f32⟩ : BufTy).Contents (Elt F) → (⟨S8x1024x32, .f32⟩ : BufTy).Contents (Elt F) → (⟨S8x1024x32, .f32⟩ : BufTy).Contents (Elt F)),
    StableHlo.reshape main_v15 main_v44 (rfl : (.i32 : EltTy) = .i32) Gen.shapeCasts_S8192_S8x1024 ]

variable (V : Valuation τ sig (Elt Ideal))
/-- The first stretch leaves the table of distances. -/
theorem distOps_v14 : StableHlo.after (distOps (F := Ideal)) V (Proc.devRef .tc main_v14) = dist (rows (V (Proc.devRef .tc main_arg0))) (V (Proc.devRef .tc main_arg1)) := by
  after_results_simp
  rfl

/-- The second stretch leaves the places of the least entries. -/
theorem leastOps_v15 : StableHlo.after (leastOps (F := Ideal)) V (Proc.devRef .tc main_v15) = least (V (Proc.devRef .tc main_v14)) := by
  after_results_simp
  rfl

/-- The third stretch leaves the number of codes no row took. -/
theorem unusedOps_v29 : StableHlo.after (unusedOps (F := Ideal)) V (Proc.devRef .tc main_v29) = unused (V (Proc.devRef .tc main_v15)) := by
  after_results_simp
  rfl

/-- The fourth stretch leaves the codes taken. -/
theorem takenOps_v30 : StableHlo.after (takenOps (F := Ideal)) V (Proc.devRef .tc main_v30) = taken (V (Proc.devRef .tc main_arg1)) (V (Proc.devRef .tc main_v15)) := by
  after_results_simp
  rfl

/-- The last stretch leaves the first result, -/
theorem closeOps_v43 : StableHlo.after (closeOps (F := Ideal)) V (Proc.devRef .tc main_v43) = out (V (Proc.devRef .tc main_arg0)) (shapeCast S8x1024x32 (V (Proc.devRef .tc main_v30)) Gen.shapeCasts_S8192x32_S8x1024x32) := by
  after_results_simp
  rfl

/-- the loss, -/
theorem closeOps_v41 : StableHlo.after (closeOps (F := Ideal)) V (Proc.devRef .tc main_v41) = loss (V (Proc.devRef .tc main_arg0)) (shapeCast S8x1024x32 (V (Proc.devRef .tc main_v30)) Gen.shapeCasts_S8192x32_S8x1024x32) := by
  after_results_simp
  rfl

/-- and the places. -/
theorem closeOps_v44 : StableHlo.after (closeOps (F := Ideal)) V (Proc.devRef .tc main_v44) = shapeCast S8x1024 (V (Proc.devRef .tc main_v15)) Gen.shapeCasts_S8192_S8x1024 := by
  after_results_simp
  rfl

/-! ### What each stretch leaves alone -/

theorem distOps_arg0 : StableHlo.after (distOps (F := Ideal)) V (Proc.devRef .tc main_arg0) = V (Proc.devRef .tc main_arg0) := by
  after_results_simp
theorem distOps_arg1 : StableHlo.after (distOps (F := Ideal)) V (Proc.devRef .tc main_arg1) = V (Proc.devRef .tc main_arg1) := by
  after_results_simp
theorem leastOps_arg0 : StableHlo.after (leastOps (F := Ideal)) V (Proc.devRef .tc main_arg0) = V (Proc.devRef .tc main_arg0) := by
  after_results_simp
theorem leastOps_arg1 : StableHlo.after (leastOps (F := Ideal)) V (Proc.devRef .tc main_arg1) = V (Proc.devRef .tc main_arg1) := by
  after_results_simp
theorem unusedOps_arg0 : StableHlo.after (unusedOps (F := Ideal)) V (Proc.devRef .tc main_arg0) = V (Proc.devRef .tc main_arg0) := by
  after_results_simp
theorem unusedOps_arg1 : StableHlo.after (unusedOps (F := Ideal)) V (Proc.devRef .tc main_arg1) = V (Proc.devRef .tc main_arg1) := by
  after_results_simp
theorem unusedOps_v15 : StableHlo.after (unusedOps (F := Ideal)) V (Proc.devRef .tc main_v15) = V (Proc.devRef .tc main_v15) := by
  after_results_simp
theorem takenOps_arg0 : StableHlo.after (takenOps (F := Ideal)) V (Proc.devRef .tc main_arg0) = V (Proc.devRef .tc main_arg0) := by
  after_results_simp
theorem takenOps_arg1 : StableHlo.after (takenOps (F := Ideal)) V (Proc.devRef .tc main_arg1) = V (Proc.devRef .tc main_arg1) := by
  after_results_simp
theorem takenOps_v15 : StableHlo.after (takenOps (F := Ideal)) V (Proc.devRef .tc main_v15) = V (Proc.devRef .tc main_v15) := by
  after_results_simp
theorem takenOps_v29 : StableHlo.after (takenOps (F := Ideal)) V (Proc.devRef .tc main_v29) = V (Proc.devRef .tc main_v29) := by
  after_results_simp
theorem closeOps_arg0 : StableHlo.after (closeOps (F := Ideal)) V (Proc.devRef .tc main_arg0) = V (Proc.devRef .tc main_arg0) := by
  after_results_simp
theorem closeOps_arg1 : StableHlo.after (closeOps (F := Ideal)) V (Proc.devRef .tc main_arg1) = V (Proc.devRef .tc main_arg1) := by
  after_results_simp
theorem closeOps_v29 : StableHlo.after (closeOps (F := Ideal)) V (Proc.devRef .tc main_v29) = V (Proc.devRef .tc main_v29) := by
  after_results_simp

/-- Two stretches run as one. -/
theorem after_two (l₁ l₂ : List (HloOp τ sig (Elt Ideal))) :
    StableHlo.after (l₁ ++ l₂) V = StableHlo.after l₂ (StableHlo.after l₁ V) := by
  induction l₁ generalizing V with
  | nil => rfl
  | cons o l ih => simp only [List.cons_append, StableHlo.after_cons, ih]

/-- What the whole program leaves: its four results and the two arguments. -/
theorem after_all {W : Valuation τ sig (Elt Ideal)}
    (hW : W = StableHlo.after (distOps ++ (leastOps ++ (unusedOps ++ (takenOps ++ closeOps)))) V)
    {x : FVec Ideal S8x1024x32 .f32} {e : FVec Ideal S8192x32 .f32}
    (hx : V (Proc.devRef .tc main_arg0) = x) (he : V (Proc.devRef .tc main_arg1) = e) :
    W (Proc.devRef .tc main_v43) = out x (coded x e) ∧ W (Proc.devRef .tc main_v41) = loss x (coded x e) ∧
      W (Proc.devRef .tc main_v29) = unused (least (dist (rows x) e)) ∧ W (Proc.devRef .tc main_v44) = places x e ∧
      W (Proc.devRef .tc main_arg0) = x ∧ W (Proc.devRef .tc main_arg1) = e := by
  subst hW
  rw [after_two, after_two, after_two, after_two]
  refine ⟨?_, ?_, ?_, ?_, ?_, ?_⟩
  · rw [closeOps_v43, takenOps_arg0, takenOps_v30, unusedOps_arg0, unusedOps_arg1, unusedOps_v15, leastOps_v15,
      leastOps_arg0, leastOps_arg1, distOps_v14, distOps_arg0, distOps_arg1, hx, he]
    rfl
  · rw [closeOps_v41, takenOps_arg0, takenOps_v30, unusedOps_arg0, unusedOps_arg1, unusedOps_v15, leastOps_v15,
      leastOps_arg0, leastOps_arg1, distOps_v14, distOps_arg0, distOps_arg1, hx, he]
    rfl
  · rw [closeOps_v29, takenOps_v29, unusedOps_v29, leastOps_v15, distOps_v14, hx, he]
  · rw [closeOps_v44, takenOps_v15, unusedOps_v15, leastOps_v15, distOps_v14, hx, he]
    rfl
  · rw [closeOps_arg0, takenOps_arg0, unusedOps_arg0, leastOps_arg0, distOps_arg0, hx]
  · rw [closeOps_arg1, takenOps_arg1, unusedOps_arg1, leastOps_arg1, distOps_arg1, he]

/-- The reference runs to its four results, and leaves its arguments as they were. -/
theorem run (m : (ℓ : Loc nD τ sig) → Buf (Elt Ideal) ℓ) (g : Dev nD → PrngReg) :
    θ_run (defs (F := Ideal)) (onTc (τ := τ) main) ⟨m, fun _ => 0, g⟩ fun r => ∀ c : Dev nD,
      r.2.mem ((c.tc : Thread nD τ).loc main_v43) = out (m ((c.tc : Thread nD τ).loc main_arg0)) (coded (m ((c.tc : Thread nD τ).loc main_arg0)) (m ((c.tc : Thread nD τ).loc main_arg1))) ∧
      r.2.mem ((c.tc : Thread nD τ).loc main_v41) = loss (m ((c.tc : Thread nD τ).loc main_arg0)) (coded (m ((c.tc : Thread nD τ).loc main_arg0)) (m ((c.tc : Thread nD τ).loc main_arg1))) ∧
      r.2.mem ((c.tc : Thread nD τ).loc main_v29) = unused (least (dist (rows (m ((c.tc : Thread nD τ).loc main_arg0))) (m ((c.tc : Thread nD τ).loc main_arg1)))) ∧
      r.2.mem ((c.tc : Thread nD τ).loc main_v44) = places (m ((c.tc : Thread nD τ).loc main_arg0)) (m ((c.tc : Thread nD τ).loc main_arg1)) ∧
      r.2.mem ((c.tc : Thread nD τ).loc main_arg0) = m ((c.tc : Thread nD τ).loc main_arg0) ∧
      r.2.mem ((c.tc : Thread nD τ).loc main_arg1) = m ((c.tc : Thread nD τ).loc main_arg1) :=
  (θ_run _ _ _).mono
    (fun r h c => by
      obtain ⟨h1, h2, h3, h4, h5, h6⟩ := after_all (StableHlo.launchContents m c) rfl rfl rfl
      exact ⟨(h c _).trans h1, (h c _).trans h2, (h c _).trans h3, (h c _).trans h4, (h c _).trans h5, (h c _).trans h6⟩)
    (StableHlo.run_hlo defs main (ops := distOps ++ (leastOps ++ (unusedOps ++ (takenOps ++ closeOps))))
      (by hlo_seq) (by decide) (by decide) (by simp)
      (by intro _ h; (repeat (cases h with | head => rfl | tail _ h => ?_)); exact nomatch h) m g)

end Cert.ReferenceIdeal.Value

end
-- ==== Proof.FirstMin.lean ====
/- The first place at which a finite row of extended reals is least: its definition, that it is
   unique, and that a search through the row a stretch at a time finds it. Pure mathematics. -/
module

public import Mathlib.Data.EReal.Basic
public import Mathlib.Data.Fintype.Basic
public import Mathlib.Data.Finset.Max
public import Mathlib.Data.Finset.Lattice.Fold

@[expose] public section

namespace Cert.FirstMin

variable {N : ℕ}

/-- `k` is the first place at which the row `d` takes its least value. -/
def IsFirst (d : Fin N → EReal) (k : Fin N) : Prop :=
  (∀ c, d k ≤ d c) ∧ ∀ c, c < k → d k < d c

/-- Two first places of the same row are one. -/
theorem IsFirst.unique {d : Fin N → EReal} {k l : Fin N} (hk : IsFirst d k) (hl : IsFirst d l) : k = l := by
  rcases lt_trichotomy k l with h | h | h
  · exact absurd (hk.1 l) (not_le.mpr (hl.2 k h))
  · exact h
  · exact absurd (hl.1 k) (not_le.mpr (hk.2 l h))

/-- A row that is not empty has a first place of its least value. -/
theorem exists_isFirst [NeZero N] (d : Fin N → EReal) : ∃ k, IsFirst d k := by
  obtain ⟨a, -, ha⟩ := Finset.exists_min_image (Finset.univ : Finset (Fin N)) d ⟨0, Finset.mem_univ _⟩
  have hne : (Finset.univ.filter fun k => ∀ c, d k ≤ d c).Nonempty :=
    ⟨a, Finset.mem_filter.mpr ⟨Finset.mem_univ _, fun c => ha c (Finset.mem_univ _)⟩⟩
  have hmem := Finset.mem_filter.mp (Finset.min'_mem _ hne)
  refine ⟨(Finset.univ.filter fun k => ∀ c, d k ≤ d c).min' hne, hmem.2, fun c hc => ?_⟩
  by_contra hn
  refine absurd hc (not_lt.mpr (Finset.min'_le _ c (Finset.mem_filter.mpr ⟨Finset.mem_univ _, fun e => ?_⟩)))
  exact (not_lt.mp hn).trans (hmem.2 e)

/-- The first place at which the row `d` takes its least value. -/
noncomputable def first [NeZero N] (d : Fin N → EReal) : Fin N := (exists_isFirst d).choose

theorem first_spec [NeZero N] (d : Fin N → EReal) : IsFirst d (first d) := (exists_isFirst d).choose_spec

theorem IsFirst.eq_first [NeZero N] {d : Fin N → EReal} {k : Fin N} (h : IsFirst d k) : k = first d :=
  h.unique (first_spec d)

/-! ## A search a stretch at a time

The search carries the least value met so far, `acc`, and a place `k`; it starts from `⊤` and the
place zero, and goes over to a new stretch's least value and first place when that value is less. -/

/-- What the search holds after the places below `o`. -/
def Found [NeZero N] (d : Fin N → EReal) (o : ℕ) (acc : EReal) (k : Fin N) : Prop :=
  (∀ c : Fin N, c.val < o → acc ≤ d c) ∧ (∀ c, c < k → acc < d c)
    ∧ ((acc = d k ∧ k.val < o) ∨ (acc = ⊤ ∧ k = 0))

theorem found_start [NeZero N] (d : Fin N → EReal) : Found d 0 ⊤ 0 :=
  ⟨fun c hc => absurd hc (Nat.not_lt_zero _), fun c hc => absurd hc (Fin.not_lt_zero c), Or.inr ⟨rfl, rfl⟩⟩

/-- One stretch more, of the `L` places from `o`: `j` is the first place of the stretch's least value `mn`. -/
theorem Found.step [NeZero N] {d : Fin N → EReal} {o L : ℕ} {acc : EReal} {k : Fin N} (h : Found d o acc k)
    {mn : EReal} {j : Fin N} (hj : o ≤ j.val ∧ j.val < o + L) (hmn : mn = d j)
    (hle : ∀ c : Fin N, o ≤ c.val → c.val < o + L → mn ≤ d c)
    (hlt : ∀ c : Fin N, o ≤ c.val → c < j → mn < d c) :
    Found d (o + L) (if mn < acc then mn else acc) (if mn < acc then j else k) := by
  obtain ⟨h1, h2, h3⟩ := h
  by_cases ht : mn < acc
  · rw [if_pos ht, if_pos ht]
    refine ⟨fun c hc => ?_, fun c hc => ?_, Or.inl ⟨hmn, hj.2⟩⟩
    · rcases Nat.lt_or_ge c.val o with hco | hco
      · exact (ht.trans_le (h1 c hco)).le
      · exact hle c hco hc
    · rcases Nat.lt_or_ge c.val o with hco | hco
      · exact ht.trans_le (h1 c hco)
      · exact hlt c hco hc
  · rw [if_neg ht, if_neg ht]
    refine ⟨fun c hc => ?_, h2, ?_⟩
    · rcases Nat.lt_or_ge c.val o with hco | hco
      · exact h1 c hco
      · exact (not_lt.mp ht).trans (hle c hco hc)
    · rcases h3 with ⟨ha, hk⟩ | h3
      · exact Or.inl ⟨ha, by omega⟩
      · exact Or.inr h3

/-- When every place has been met, the place held is the first of the least value. -/
theorem Found.isFirst [NeZero N] {d : Fin N → EReal} {acc : EReal} {k : Fin N} (h : Found d N acc k) : IsFirst d k := by
  obtain ⟨h1, h2, h3⟩ := h
  rcases h3 with ⟨ha, -⟩ | ⟨ha, hk⟩
  · exact ⟨fun c => ha ▸ h1 c c.isLt, fun c hc => ha ▸ h2 c hc⟩
  · refine ⟨fun c => ?_, fun c hc => absurd hc (by rw [hk]; exact Fin.not_lt_zero c)⟩
    have := h1 c c.isLt
    rw [ha, top_le_iff] at this
    rw [this]; exact le_top

/-! ## One stretch

The least value of a stretch is a minimum over it, and its first place is read as a number: a minimum
of the numbers of the places that attain the least value, every other place counted as a number `z`
that is at least as great as all of them. -/

/-- The least of finitely many extended reals is one of them, and below them all. -/
theorem exists_fold_min {L : ℕ} [NeZero L] (f : Fin L → EReal) :
    ∃ j, Finset.univ.fold min ⊤ f = f j ∧ ∀ c, f j ≤ f c := by
  obtain ⟨j, -, hj⟩ := Finset.exists_min_image (Finset.univ : Finset (Fin L)) f ⟨0, Finset.mem_univ _⟩
  refine ⟨j, le_antisymm ?_ ?_, fun c => hj c (Finset.mem_univ _)⟩
  · exact (Finset.fold_min_le (f j)).mpr (Or.inr ⟨j, Finset.mem_univ _, le_rfl⟩)
  · exact (Finset.le_fold_min (f j)).mpr ⟨le_top, fun c hc => hj c hc⟩

/-- The minimum of the numbers `io` of the places that attain the least value is the first such
    place's, when `io` increases and `z` bounds it. -/
theorem fold_min_first {L : ℕ} [NeZero L] (f io : Fin L → EReal) (z : EReal) (hio : Monotone io)
    (hz : ∀ c, io c ≤ z) (mn : EReal) (hmn : mn = Finset.univ.fold min ⊤ f) :
    Finset.univ.fold min ⊤ (fun c => if f c = mn then io c else z) = io (first f) ∧ mn = f (first f) := by
  obtain ⟨hf1, hf2⟩ := first_spec f
  have e : mn = f (first f) := by
    rw [hmn]
    refine le_antisymm ((Finset.fold_min_le _).mpr (Or.inr ⟨_, Finset.mem_univ _, le_rfl⟩)) ?_
    exact (Finset.le_fold_min _).mpr ⟨le_top, fun c _ => hf1 c⟩
  refine ⟨le_antisymm ?_ ?_, e⟩
  · refine (Finset.fold_min_le _).mpr (Or.inr ⟨first f, Finset.mem_univ _, ?_⟩)
    rw [if_pos e.symm]
  · refine (Finset.le_fold_min _).mpr ⟨le_top, fun c _ => ?_⟩
    by_cases hc : f c = mn
    · rw [if_pos hc]
      refine hio (not_lt.mp fun hlt => ?_)
      exact absurd (hc.trans e) (hf2 c hlt).ne'
    · rw [if_neg hc]; exact hz _

end Cert.FirstMin

end
-- ==== Proof.Coding.lean ====
/- The mathematics of the claim, over tables of extended reals: the distance of a vector to a code,
   the code a vector takes, the sum of the squared steps, the number of codes no vector takes. -/
module

public import proofs.«01_k».proof.Proof.FirstMin
public import Mathlib.Data.EReal.Operations
public import Mathlib.Algebra.BigOperators.Fin

@[expose] public section

noncomputable section

namespace Cert.Coding

/-- A table of 8192 vectors of 32 numbers each. -/
abbrev Table := Fin 8192 → Fin 32 → EReal

/-- The distance of vector `n` of `z` to code `c` of `e`, multiplied out. -/
def dist (z e : Table) (n c : Fin 8192) : EReal :=
  (∑ k, z n k * z n k - ∑ k, 2 * z n k * e c k) + ∑ k, e c k * e c k

/-- The code vector `n` takes: the first of those at the least distance. -/
def code (z e : Table) (n : Fin 8192) : Fin 8192 := FirstMin.first (dist z e n)

/-- What vector `n` moves by when its code replaces it. -/
def move (z e : Table) (n : Fin 8192) (k : Fin 32) : EReal := e (code z e n) k - z n k

/-- The squares of the moves of vector `n`, added. -/
def sqMove (z e : Table) (n : Fin 8192) : EReal := ∑ k, move z e n k * move z e n k

/-- How many codes no vector takes. -/
def unused (z e : Table) : ℕ := (Finset.univ.filter fun c => ∀ n, code z e n ≠ c).card

theorem unused_le (z e : Table) : unused z e ≤ 8192 := by
  refine (Finset.card_le_univ _).trans ?_
  simp

end Cert.Coding

end
-- ==== Proof.Search.lean ====
/- A search for the first least place of a row of 8192, in four stretches of 2048. Pure mathematics. -/
module

public import proofs.«01_k».proof.Proof.Coding
public import Idealize.ShloMosaic.PureOps.Ideal

@[expose] public section

noncomputable section

namespace Cert.Search

open Cert.FirstMin

/-- The place of a row as a number. -/
def num (c : Fin 8192) : EReal := ((c.val : ℝ) : EReal)

theorem num_le_iff (a b : Fin 8192) : num a ≤ num b ↔ a ≤ b := by
  unfold num
  rw [EReal.coe_le_coe_iff, Nat.cast_le]; rfl

theorem num_inj (a b : Fin 8192) : num a = num b ↔ a = b := by
  rw [le_antisymm_iff, num_le_iff, num_le_iff, ← le_antisymm_iff]

theorem num_le (c : Fin 8192) : num c ≤ ((8192 : ℝ) : EReal) := by
  unfold num
  rw [EReal.coe_le_coe_iff]
  exact_mod_cast c.isLt.le

/-- A place's number, made an integer again. -/
theorem fptosi_num (c : Fin 8192) : Idealize.ShloMosaic.Ideal.fptosi 32 (num c) = BitVec.ofNat 32 c.val := by
  have hc := c.isLt
  have h0 : (0 : ℝ) ≤ (c.val : ℝ) := Nat.cast_nonneg _
  rw [num, Idealize.ShloMosaic.Ideal.fptosi, Idealize.ShloMosaic.Ideal.toIntClamped_coe, if_pos h0, Int.floor_natCast]
  have e : max (-((2 ^ (32 - 1) : ℕ) : ℤ)) (min (((2 ^ (32 - 1) : ℕ) : ℤ) - 1) (c.val : ℤ)) = (c.val : ℤ) := by omega
  rw [e, BitVec.ofInt_natCast]

variable (d : Fin 8192 → EReal) (z : EReal)

/-- The least value of the row over the stretch `q` of its places. -/
def low (q : Fin 2048 → Fin 8192) : EReal := Finset.univ.fold min ⊤ fun x => d (q x)

/-- The least number of a place of the stretch that attains the stretch's least value; `z` stands for
    the others. -/
def spot (q : Fin 2048 → Fin 8192) : EReal := Finset.univ.fold min ⊤ fun x => if d (q x) = low d q then num (q x) else z

/-- The search's least value after one stretch more. -/
def best (q : Fin 2048 → Fin 8192) (acc : EReal) : EReal := if low d q < acc then low d q else acc

/-- The search's place, as a number, after one stretch more. -/
def seat (q : Fin 2048 → Fin 8192) (acc p : EReal) : EReal := if low d q < acc then spot d z q else p

variable {d z}

/-- One stretch more. -/
theorem step (hz : ∀ c, num c ≤ z) {q : Fin 2048 → Fin 8192} {o : ℕ} (hq : ∀ x, (q x).val = o + x.val) {acc p : EReal}
    (h : ∃ k, Found d o acc k ∧ p = num k) :
    ∃ k, Found d (o + 2048) (best d q acc) k ∧ seat d z q acc p = num k := by
  obtain ⟨k, hf, rfl⟩ := h
  obtain ⟨h1, h2⟩ := fold_min_first (fun x => d (q x)) (fun x => num (q x)) z
    (fun a b hab => (num_le_iff _ _).mpr (Fin.le_def.mpr (by rw [hq, hq]; exact Nat.add_le_add_left hab o)))
    (fun c => hz _) (low d q) rfl
  obtain ⟨g1, g2⟩ := first_spec fun x => d (q x)
  have hof : ∀ c : Fin 8192, o ≤ c.val → c.val < o + 2048 → ∃ x, c = q x := fun c h h' =>
    ⟨⟨c.val - o, by omega⟩, Fin.ext (by rw [hq]; show c.val = o + (c.val - o); omega)⟩
  have hj : o ≤ (q (first fun x => d (q x))).val ∧ (q (first fun x => d (q x))).val < o + 2048 := by
    have := (first fun x => d (q x)).isLt
    rw [hq]; omega
  refine ⟨_, hf.step hj h2 (fun c hc hc' => ?_) (fun c hc hc' => ?_), ?_⟩
  · obtain ⟨x, rfl⟩ := hof c hc hc'
    exact h2.le.trans (g1 x)
  · obtain ⟨x, rfl⟩ := hof c hc ((Fin.lt_def.mp hc').trans hj.2)
    refine h2.trans_lt (g2 x ?_)
    have := Fin.lt_def.mp hc'
    rw [hq, hq] at this
    exact Fin.lt_def.mpr (by omega)
  · unfold seat
    rw [apply_ite num]
    exact congrArg (fun a => if low d q < acc then a else num k) h1

variable (d z)

/-- The four stretches, one after the other, leave the first least place. -/
theorem search (hz : ∀ c, num c ≤ z) (q0 q1 q2 q3 : Fin 2048 → Fin 8192) (h0 : ∀ x, (q0 x).val = 0 + x.val)
    (h1 : ∀ x, (q1 x).val = 2048 + x.val) (h2 : ∀ x, (q2 x).val = 4096 + x.val) (h3 : ∀ x, (q3 x).val = 6144 + x.val) :
    seat d z q3 (best d q2 (best d q1 (best d q0 ⊤))) (seat d z q2 (best d q1 (best d q0 ⊤)) (seat d z q1 (best d q0 ⊤) (seat d z q0 ⊤ 0)))
      = num (first d) := by
  obtain ⟨k, hk, e⟩ := step hz h3 (step hz h2 (step hz h1 (step hz h0 ⟨0, found_start d, (by simp [num] : (0 : EReal) = num 0)⟩)))
  rw [e, hk.isFirst.eq_first]

end Cert.Search

end
-- ==== Proof.Block.lean ====
/- What one block of the kernel computes: the distances of its rows to the codes, and the place of the
   code each row takes. -/
module

public import proofs.«01_k».proof.Proof.Gen.KernelIdeal.Skeleton
public import proofs.«01_k».proof.Proof.Search
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem Cert.KernelIdeal Cert.KernelIdeal.Gen Cert.Search

theorem ofBits_inf : Ideal.ofBits .f32 2139095040#32 = (⊤ : EReal) := by
  simp [Ideal.ofBits, Ideal.ieee]

theorem ofBits_two : Ideal.ofBits .f32 1073741824#32 = (2 : EReal) := by
  simp only [Ideal.ofBits, Ideal.ieee]
  simp
  norm_cast
  norm_num
  rfl

theorem ofBits_codes : Ideal.ofBits .f32 1174405120#32 = ((8192 : ℝ) : EReal) := by
  simp only [Ideal.ofBits, Ideal.ieee]
  simp
  norm_cast
  norm_num

/-- The four stretches of the places, from `o` on. -/
def stretch (o : ℕ) (ho : o + 2048 ≤ 8192) (x : Fin 2048) : Fin 8192 := ⟨o + x.val, by omega⟩

/-- The first stretch. -/
def stretch0 (x : Fin 2048) : Fin 8192 := ⟨x.val, by omega⟩

section
variable (v3 : Vec Ideal S256x32 .f32) (v8 : Vec Ideal S32x8192 .bf16) (v11 : Vec Ideal S256x1 .f32) (v15 v19 : Vec Ideal S1x8192 .f32)

/-- The distance of a row to a code. -/
theorem dist_apply (r : Fin 256) (c : Fin 8192) :
    k0_pay7 v3 v8 v11 v15 (ix2 r c) = v11 (ix2 r 0) - ∑ k, 2 * v3 (ix2 r k) * v8 (ix2 k c) + v15 (ix2 0 c) := by
  pointwise [k0_pay7, k0_pay6]
  rw [ofBits_two]

/-- The place the first stretch leaves. -/
theorem spot_apply (hio : ∀ c, v19 (ix2 0 c) = num c) (r : Fin 256) :
    k0_pay13 v3 v8 v11 v15 v19 (ix2 r 0) = spot (fun c => k0_pay7 v3 v8 v11 v15 (ix2 r c)) ((8192 : ℝ) : EReal) stretch0 := by
  pointwise [k0_pay13, k0_pay12, k0_pay11, k0_pay8]
  simp only [hio, ofBits_inf, ofBits_codes]
  rfl

/-- The least value the first stretch leaves. -/
theorem best_apply (r : Fin 256) :
    k0_pay15 v3 v8 v11 v15 (ix2 r 0) = best (fun c => k0_pay7 v3 v8 v11 v15 (ix2 r c)) stretch0 ⊤ := by
  pointwise [k0_pay14, k0_pay15, k0_pay12, k0_pay11, k0_pay9]
  simp only [ofBits_inf]
  rfl

/-- The choice of the first stretch's place over the place zero. -/
theorem take_apply (r : Fin 256) (a b : EReal) :
    Scalar.select (k0_pay14 v3 v8 v11 v15 (ix2 r 0)) a b
      = if low (fun c => k0_pay7 v3 v8 v11 v15 (ix2 r c)) stretch0 < ⊤ then a else b := by
  pointwise [k0_pay14, k0_pay12, k0_pay11, k0_pay9]
  simp only [ofBits_inf]
  rfl

end

/-- The last three stretches. -/
theorem rest_apply (v18 : FVec Ideal S256x8192 .f32) (v20 : FVec Ideal S1x8192 .f32) (v22 : FVec Ideal S256x1 .f32)
    (v34 : FVec Ideal S256x1 .f32) (v35 : IVec S256x1 1) (v38 : FVec Ideal S256x1 .f32) (hio : ∀ c, v20 (ix2 0 c) = num c)
    (r : Fin 256) (d : Fin 8192 → EReal) (hd : d = fun c => v18 (ix2 r c)) (z : EReal) (hz : z = ((8192 : ℝ) : EReal)) :
    k0_pay16 v18 v20 v22 v34 v35 v38 (ix2 r 0)
      = seat d z (stretch 6144 (by decide)) (best d (stretch 4096 (by decide)) (best d (stretch 2048 (by decide)) (v38 (ix2 r 0))))
          (seat d z (stretch 4096 (by decide)) (best d (stretch 2048 (by decide)) (v38 (ix2 r 0)))
            (seat d z (stretch 2048 (by decide)) (v38 (ix2 r 0))
              (Scalar.select (v35 (ix2 r 0)) (v34 (ix2 r 0)) (v22 (ix2 r 0))))) := by
  pointwise [k0_pay16]
  simp only [hio, ofBits_inf, ofBits_codes]
  subst hd hz
  rfl

section
variable (v3 : Vec Ideal S256x32 .f32) (v8 : Vec Ideal S32x8192 .bf16) (v11 : Vec Ideal S256x1 .f32) (v15 v19 : Vec Ideal S1x8192 .f32)

/-- The place of the code a row takes, as a number. -/
def placeOf : FVec Ideal S256x1 .f32 :=
  k0_pay16 (k0_pay7 v3 v8 v11 v15) (k0_pay8 v19) (k0_pay10 (F := Ideal)) (k0_pay13 v3 v8 v11 v15 v19) (k0_pay14 v3 v8 v11 v15) (k0_pay15 v3 v8 v11 v15)

/-- It is the first place at the least distance. -/
theorem placeOf_apply (hio : ∀ c, v19 (ix2 0 c) = num c) (r : Fin 256) :
    placeOf v3 v8 v11 v15 v19 (ix2 r 0) = num (FirstMin.first fun c => k0_pay7 v3 v8 v11 v15 (ix2 r c)) := by
  have h8 : ∀ c, k0_pay8 v19 (ix2 0 c) = num c := fun c => by
    pointwise [k0_pay8]
    exact hio c
  have h10 : k0_pay10 (F := Ideal) (ix2 r 0) = (0 : EReal) := by
    pointwise [k0_pay10]
  refine (rest_apply _ _ _ _ _ _ h8 r _ rfl _ rfl).trans ?_
  rw [best_apply, spot_apply v3 v8 v11 v15 v19 hio, take_apply, h10]
  exact search (fun c => k0_pay7 v3 v8 v11 v15 (ix2 r c)) _ num_le stretch0 _ _ _ (fun x => (Nat.zero_add _).symm) (fun x => rfl) (fun x => rfl) (fun x => rfl)

end

end Cert.KernelIdeal.Value

end
-- ==== Proof.Outs.lean ====
/- What the kernel's output blocks and its running count hold after each grid point, in the words of the
   block's own computation. -/
module

public import proofs.«01_k».proof.Proof.Gen.KernelIdeal.Frame
public import proofs.«01_k».proof.Proof.Block
public import Idealize.ShloMosaic.Lib.Pipeline.ValueKit
public import Idealize.ShloMosaic.Lib.Pipeline.ReadBack

@[expose] public section

set_option maxRecDepth 16384

noncomputable section

namespace Cert.KernelIdeal.Value

open Idealize.ShloMosaic Idealize.ShloMosaic.TcCoe Idealize.SL.Sem Cert.KernelIdeal Cert.KernelIdeal.Gen

variable (m : (ℓ : Loc nD τ sig) → Buf (Elt Ideal) ℓ)

/-- The places of the codes that the rows of a point's block take, as numbers. -/
abbrev spots (c : Dev nD) (t : Fin cfg0.N) : FVec Ideal S256x1 .f32 :=
  placeOf (iblk m c 0 t) (iblk m c 1 t) (iblk m c 3 t) (iblk m c 4 t) (iblk m c 5 t)

theorem case_of (t : Fin cfg0.N) : (t.val % 32 = 0 ∧ ¬ t.val % 32 = 31) ∨ (¬ t.val % 32 = 0 ∧ ¬ t.val % 32 = 31) ∨ (¬ t.val % 32 = 0 ∧ t.val % 32 = 31) := by
  omega

/-- The block of moved rows. -/
theorem rows_out (c : Dev nD) (t : Fin cfg0.N) :
    (outsAt0 m c t.val t.isLt).1 = k0_pay20 (k0_pay6 (iblk m c 0 t)) (k0_pay8 (iblk m c 5 t)) (spots m c t) (iblk m c 2 t) := by
  rcases case_of t with ⟨h0, h1⟩ | ⟨h0, h1⟩ | ⟨h0, h1⟩
  · rw [outsAt0_A m c t h0 h1]; dsimp only; frame_out; try rfl
  · rw [outsAt0_B m c t h0 h1]; dsimp only; frame_out; try rfl
  · rw [outsAt0_C m c t h0 h1]; dsimp only; frame_out; try rfl

/-- The block of places. -/
theorem places_out (c : Dev nD) (t : Fin cfg0.N) :
    (outsAt0 m c t.val t.isLt).2.1 = k0_pay17 (k0_pay7 (iblk m c 0 t) (iblk m c 1 t) (iblk m c 3 t) (iblk m c 4 t)) (k0_pay8 (iblk m c 5 t)) (k0_pay10 (F := Ideal))
        (k0_pay13 (iblk m c 0 t) (iblk m c 1 t) (iblk m c 3 t) (iblk m c 4 t) (iblk m c 5 t))
        (k0_pay14 (iblk m c 0 t) (iblk m c 1 t) (iblk m c 3 t) (iblk m c 4 t))
        (k0_pay15 (iblk m c 0 t) (iblk m c 1 t) (iblk m c 3 t) (iblk m c 4 t)) := by
  rcases case_of t with ⟨h0, h1⟩ | ⟨h0, h1⟩ | ⟨h0, h1⟩
  · rw [outsAt0_A m c t h0 h1]; dsimp only; frame_out; try rfl
  · rw [outsAt0_B m c t h0 h1]; dsimp only; frame_out; try rfl
  · rw [outsAt0_C m c t h0 h1]; dsimp only; frame_out; try rfl

/-- One point's addition to the sum of squares. -/
abbrev squares (c : Dev nD) (t : Fin cfg0.N) (acc : Vec Ideal S1x1 .f32) : FVec Ideal S1x1 .f32 :=
  k0_pay21 (k0_pay6 (iblk m c 0 t)) (k0_pay8 (iblk m c 5 t)) (spots m c t) (iblk m c 2 t) acc

/-- One point's addition to the counts. -/
abbrev counts (c : Dev nD) (t : Fin cfg0.N) (acc : Vec Ideal S1x8192 .f32) : FVec Ideal S1x8192 .f32 :=
  k0_pay22 (k0_pay8 (iblk m c 5 t)) (spots m c t) acc

theorem prev_lt (t : Fin cfg0.N) : t.val - 1 < cfg0.N := Nat.lt_of_le_of_lt (Nat.sub_le _ _) t.isLt

theorem squares_first (c : Dev nD) (t : Fin cfg0.N) (h0 : t.val % 32 = 0) (h1 : ¬ t.val % 32 = 31) :
    ∃ z : Vec Ideal S1x1 .f32, z (ix2 0 0) = (0 : EReal) ∧ (outsAt0 m c t.val t.isLt).2.2.1 = squares m c t z := by
  refine ⟨k0_pay4 (F := Ideal), by pointwise [k0_pay4], ?_⟩
  rw [outsAt0_A m c t h0 h1]; dsimp only; frame_out; try rfl

theorem squares_next (c : Dev nD) (t : Fin cfg0.N) (h0 : ¬ t.val % 32 = 0) (h1 : ¬ t.val % 32 = 31) :
    (outsAt0 m c t.val t.isLt).2.2.1 = squares m c t (outsAt0 m c (t.val - 1) (prev_lt t)).2.2.1 := by
  rw [outsAt0_B m c t h0 h1]; dsimp only; frame_out; try rfl

theorem squares_last (c : Dev nD) (t : Fin cfg0.N) (h0 : ¬ t.val % 32 = 0) (h1 : t.val % 32 = 31) :
    (outsAt0 m c t.val t.isLt).2.2.1 = k0_pay1 (F := Ideal) (squares m c t (outsAt0 m c (t.val - 1) (prev_lt t)).2.2.1) := by
  rw [outsAt0_C m c t h0 h1]; dsimp only; frame_out; try rfl

theorem counts_first (c : Dev nD) (t : Fin cfg0.N) (h0 : t.val % 32 = 0) (h1 : ¬ t.val % 32 = 31) :
    (outsAt0 m c t.val t.isLt).2.2.2.2 = counts m c t (k0_pay3 (F := Ideal)) := by
  rw [outsAt0_A m c t h0 h1]; dsimp only; frame_out; try rfl

theorem counts_next (c : Dev nD) (t : Fin cfg0.N) (h0 : ¬ t.val % 32 = 0) (h1 : ¬ t.val % 32 = 31) :
    (outsAt0 m c t.val t.isLt).2.2.2.2 = counts m c t (outsAt0 m c (t.val - 1) (prev_lt t)).2.2.2.2 := by
  rw [outsAt0_B m c t h0 h1]; dsimp only; frame_out; simp only [read_unread_whole]; try rfl

theorem unused_last (c : Dev nD) (t : Fin cfg0.N) (h0 : ¬ t.val % 32 = 0) (h1 : t.val % 32 = 31) :
    (outsAt0 m c t.val t.isLt).2.2.2.1 = k0_pay2 (F := Ideal) (counts m c t (outsAt0 m c (t.val - 1) (prev_lt t)).2.2.2.2) := by
  rw [outsAt0_C m c t h0 h1]; dsimp only; frame_out; simp only [read_unread_whole]; try rfl

end Cert.KernelIdeal.Value

end
-- ==== Proof.BlockOut.lean ====
/- What one block of the kernel does with the place of the code each of its rows takes: the code looked
   up, the move to it, the running sum of squares, the running count of uses, and the two last steps. -/
module

public import proofs.«01_k».proof.Proof.Gen.KernelIdeal.Skeleton
public import proofs.«01_k».proof.Proof.Search
public import Idealize.ShloMosaic.Lib.Pipeline.ValueKit
public import Idealize.ShloMosaic.Lib.Pointwise
public import Idealize.ShloMosaic.Lib.IndicatorCount

@[expose] public section

set_option maxRecDepth 16384

noncomputable section

namespace Cert.KernelIdeal.Value

open Idealize.ShloMosaic Idealize.ShloMosaic.TcCoe Idealize.SL.Sem Cert.KernelIdeal Cert.KernelIdeal.Gen Cert.Search

theorem sitofp_bit (p : Prop) [Decidable p] :
    (FloatOps.sitofp (F := Ideal) FTy.f32 (BitVec.setWidth 32 (BitVec.ofBool (decide p))) : EReal) = if p then 1 else 0 := by
  by_cases h : p
  · rw [if_pos h, decide_eq_true h]
    show (((BitVec.setWidth 32 (BitVec.ofBool true)).toInt : ℝ) : EReal) = 1
    have : (BitVec.setWidth 32 (BitVec.ofBool true)).toInt = 1 := by decide
    rw [this]; simp
  · rw [if_neg h, decide_eq_false h]
    show (((BitVec.setWidth 32 (BitVec.ofBool false)).toInt : ℝ) : EReal) = 0
    have : (BitVec.setWidth 32 (BitVec.ofBool false)).toInt = 0 := by decide
    rw [this]; simp

section
variable (v4 : FVec Ideal S256x32 .f32) (v20 : FVec Ideal S1x8192 .f32) (v87 : FVec Ideal S256x1 .f32)
  (v96 : Vec Ideal S8192x96 .bf16) (g : Fin 256 → Fin 8192)

/-- The indicator of a row's code. -/
theorem hot_apply (hio : ∀ c, v20 (ix2 0 c) = num c) (hg : ∀ r, v87 (ix2 r 0) = num (g r)) (r : Fin 256) (c : Fin 8192) :
    k0_pay18 v20 v87 (ix2 r c) = (if c = g r then (1 : EReal) else 0) := by
  pointwise [k0_pay18]
  rw [hio, hg, sitofp_bit]
  simp only [num_inj]

/-- A sum against the indicator is the entry it marks. -/
theorem hot_sum (hio : ∀ c, v20 (ix2 0 c) = num c) (hg : ∀ r, v87 (ix2 r 0) = num (g r)) (r : Fin 256) (f : Fin 8192 → EReal) :
    ∑ c, k0_pay18 v20 v87 (ix2 r c) * f c = f (g r) := by
  rw [Finset.sum_congr rfl fun c _ => by rw [hot_apply v20 v87 g hio hg r c, ite_mul, one_mul, zero_mul]]
  exact (Finset.sum_ite_eq' Finset.univ (g r) f).trans (if_pos (Finset.mem_univ _))

/-- The move of a row to its code. -/
theorem move_apply (hio : ∀ c, v20 (ix2 0 c) = num c) (hg : ∀ r, v87 (ix2 r 0) = num (g r)) (e : Coding.Table)
    (h0 : ∀ c (k : Fin 32), v96 (ix2 c ⟨k.val, by omega⟩) = e c k) (h1 : ∀ c (k : Fin 32), v96 (ix2 c ⟨32 + k.val, by omega⟩) = (0 : EReal))
    (h2 : ∀ c (k : Fin 32), v96 (ix2 c ⟨64 + k.val, by omega⟩) = (0 : EReal)) (r : Fin 256) (k : Fin 32) :
    k0_pay19 v4 v20 v87 v96 (ix2 r k) = e (g r) k - v4 (ix2 r k) := by
  pointwise [k0_pay19]
  rw [hot_sum v20 v87 g hio hg r fun c => v96 (ix2 c ⟨k.val, by omega⟩), hot_sum v20 v87 g hio hg r fun c => v96 (ix2 c ⟨32 + k.val, by omega⟩),
    hot_sum v20 v87 g hio hg r fun c => v96 (ix2 c ⟨64 + k.val, by omega⟩), h0, h1, h2, add_zero, add_zero]

/-- The row moved. -/
theorem moved_apply (r : Fin 256) (k : Fin 32) :
    k0_pay20 v4 v20 v87 v96 (ix2 r k) = v4 (ix2 r k) + k0_pay19 v4 v20 v87 v96 (ix2 r k) := by
  pointwise [k0_pay20]

/-- The running sum of squares. -/
theorem squares_apply (v107 : Vec Ideal S1x1 .f32) :
    k0_pay21 v4 v20 v87 v96 v107 (ix2 0 0)
      = v107 (ix2 0 0) + ∑ r, ∑ k, k0_pay19 v4 v20 v87 v96 (ix2 r k) * k0_pay19 v4 v20 v87 v96 (ix2 r k) := by
  pointwise [k0_pay21]

/-- The running count of uses. -/
theorem uses_apply (v118 : Vec Ideal S1x8192 .f32) (c : Fin 8192) :
    k0_pay22 v20 v87 v118 (ix2 0 c) = v118 (ix2 0 c) + ∑ r, k0_pay18 v20 v87 (ix2 r c) := by
  pointwise [k0_pay22]

end

/-- The place of a code made an integer. -/
theorem word_apply (v18 : FVec Ideal S256x8192 .f32) (v20 : FVec Ideal S1x8192 .f32) (v22 : FVec Ideal S256x1 .f32)
    (v34 : FVec Ideal S256x1 .f32) (v35 : IVec S256x1 1) (v38 : FVec Ideal S256x1 .f32) (r : Fin 256) (c : Fin 8192)
    (h : k0_pay16 v18 v20 v22 v34 v35 v38 (ix2 r 0) = num c) :
    k0_pay17 v18 v20 v22 v34 v35 v38 (ix2 r 0) = BitVec.ofNat 32 c.val :=
  (congrArg (Ideal.fptosi 32) h).trans (fptosi_num c)

/-- The last step of the sum of squares: the mean, and a quarter of it. -/
theorem mean_apply (v : Vec Ideal S1x1 .f32) :
    k0_pay1 v (ix2 0 0) = Ideal.div (v (ix2 0 0)) (Ideal.ofBits .f32 0x48800000#32)
      + Ideal.ofBits .f32 0x3E800000#32 * Ideal.div (v (ix2 0 0)) (Ideal.ofBits .f32 0x48800000#32) := by
  pointwise [k0_pay1]

/-- The last step of the counts: how many are zero. -/
theorem zeros_apply (v : Vec Ideal S1x8192 .f32) (p : Fin 8192 → Prop) [DecidablePred p] (hp : ∀ c, v (ix2 0 c) = (0 : EReal) ↔ p c) :
    k0_pay2 v (ix2 0 0) = BitVec.ofNat 32 (Finset.univ.filter p).card := by
  pointwise [k0_pay2]
  refine (IndicatorCount.fold_addi_setWidth_eq_card _ _).trans (congrArg (BitVec.ofNat 32) ?_)
  refine Finset.card_bij (fun k _ => k.2) (fun k hk => ?_) (fun a _ b _ h => Prod.ext (Subsingleton.elim _ _) h) (fun c hc => ⟨(0, c), ?_, rfl⟩)
  · have h := (Finset.mem_filter.mp hk).2
    refine Finset.mem_filter.mpr ⟨Finset.mem_univ _, (hp _).mp ?_⟩
    by_contra hn
    rw [decide_eq_false hn] at h
    exact absurd h (by decide)
  · have h := (hp c).mpr (Finset.mem_filter.mp hc).2
    refine Finset.mem_filter.mpr ⟨Finset.mem_univ _, ?_⟩
    rw [decide_eq_true h]
    rfl

end Cert.KernelIdeal.Value

end
-- ==== Proof.Entry.lean ====
/- What the kernel's operands hold when its grid starts, over the table of rows and the table of codes. -/
module

public import proofs.«01_k».proof.Proof.Gen.KernelIdeal.Frame
public import proofs.«01_k».proof.Proof.Search
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem Cert.KernelIdeal Cert.KernelIdeal.Gen Cert.Search

variable (m : (ℓ : Loc nD τ sig) → Buf (Elt Ideal) ℓ) (c : Dev nD)

/-- The rows, as an array of 8192 of them. -/
def zarr : FVec Ideal S8192x32 .f32 :=
  shapeCast S8192x32 (m ((c : Thread nD τ).loc main_arg0) : FVec Ideal S8x1024x32 .f32) shapeCasts_S8x1024x32_S8192x32

/-- The codes. -/
def earr : FVec Ideal S8192x32 .f32 := m ((c : Thread nD τ).loc main_arg1)

/-- The table of the rows. -/
def ztab : Coding.Table := fun n k => zarr m c (ix2 n k)

/-- The table of the codes. -/
def etab : Coding.Table := fun n k => earr m c (ix2 n k)

theorem V_rows : V m c main_v0 = zarr m c := by
  unfold V V0
  simp only [hostOps0, List.flatten_cons, List.flatten_nil, List.append_nil]
  after_results_simp
  rfl

theorem V_norms : V m c main_v3 = broadcastInDim S8192x1 ![0] bcast_S8192_S8192x1_0
    (Host.reduceAdd (mulf (zarr m c) (zarr m c)) (constant S_ .f32 0x00000000#32) reducesTo_S8192x32_S8192_d1 h_S_) := by
  unfold V V0
  simp only [hostOps0, List.flatten_cons, List.flatten_nil, List.append_nil]
  after_results_simp
  rfl

theorem V_sizes : V m c main_v6 = broadcastInDim S1x8192 ![1] bcast_S8192_S1x8192_1
    (Host.reduceAdd (mulf (earr m c) (earr m c)) (constant S_ .f32 0x00000000#32) reducesTo_S8192x32_S8192_d1 h_S_) := by
  unfold V V0
  simp only [hostOps0, List.flatten_cons, List.flatten_nil, List.append_nil]
  after_results_simp
  rfl

theorem V_codes : V m c main_v8 = transpose S32x8192 [1, 0] (truncf .bf16 (earr m c) bitsLt_bf16_f32) transposes_S8192x32_S32x8192_1_0 := by
  unfold V V0
  simp only [hostOps0, List.flatten_cons, List.flatten_nil, List.append_nil]
  after_results_simp
  rfl

theorem V_places : V m c main_v18 = broadcastInDim S1x8192 ![1] bcast_S8192_S1x8192_1 (sitofp (F := Ideal) .f32 (iotaInDim S8192 32 0)) := by
  unfold V V0
  simp only [hostOps0, List.flatten_cons, List.flatten_nil, List.append_nil]
  after_results_simp

/-- The codes less their rounding. -/
def rest1 : FVec Ideal S8192x32 .f32 := subf (earr m c) (extf .f32 (truncf .bf16 (earr m c) bitsLt_bf16_f32) bitsLt_bf16_f32)

/-- What remains, less its rounding. -/
def rest2 : FVec Ideal S8192x32 .f32 := subf (rest1 m c) (extf .f32 (truncf .bf16 (rest1 m c) bitsLt_bf16_f32) bitsLt_bf16_f32)

section
variable (W : Valuation τ sig (Elt Ideal))

theorem after_two (a b : List (HloOp τ sig (Elt Ideal))) :
    StableHlo.after (a ++ b) W = StableHlo.after b (StableHlo.after a W) := by
  induction a generalizing W with
  | nil => rfl
  | cons o a ih => simp only [List.cons_append, StableHlo.after_cons, ih]

theorem late_v16 : StableHlo.after (hostOps0.drop 18) W (Proc.devRef .tc main_v16)
    = concatenate S8192x96 1 [⟨S8192x32, (W (Proc.devRef .tc main_v9) : FVec Ideal S8192x32 .bf16)⟩,
        ⟨S8192x32, (W (Proc.devRef .tc main_v12) : FVec Ideal S8192x32 .bf16)⟩, ⟨S8192x32, (W (Proc.devRef .tc main_v15) : FVec Ideal S8192x32 .bf16)⟩]
        concatenates_S8192x32_S8192x32_S8192x32_S8192x96_d1 := by
  simp only [hostOps0, List.drop_succ_cons, List.drop_zero]
  after_results
  rfl

theorem early_v9 : StableHlo.after (hostOps0.take 18) (fun b => m (c, b)) (Proc.devRef .tc main_v9) = truncf .bf16 (earr m c) bitsLt_bf16_f32 := by
  simp only [hostOps0, List.take_succ_cons, List.take_zero]
  after_results_simp
  rfl

theorem early_v12 : StableHlo.after (hostOps0.take 18) (fun b => m (c, b)) (Proc.devRef .tc main_v12) = truncf .bf16 (rest1 m c) bitsLt_bf16_f32 := by
  simp only [hostOps0, List.take_succ_cons, List.take_zero]
  after_results_simp
  rfl

theorem early_v15 : StableHlo.after (hostOps0.take 18) (fun b => m (c, b)) (Proc.devRef .tc main_v15) = truncf .bf16 (rest2 m c) bitsLt_bf16_f32 := by
  simp only [hostOps0, List.take_succ_cons, List.take_zero]
  after_results_simp
  rfl

end

/-- The codes in three columns of 32: their rounding and the two remainders. -/
theorem V_split : V m c main_v16
    = concatenate S8192x96 1 [⟨S8192x32, truncf .bf16 (earr m c) bitsLt_bf16_f32⟩, ⟨S8192x32, truncf .bf16 (rest1 m c) bitsLt_bf16_f32⟩,
        ⟨S8192x32, truncf .bf16 (rest2 m c) bitsLt_bf16_f32⟩] concatenates_S8192x32_S8192x32_S8192x32_S8192x96_d1 := by
  have e : V0 m c = StableHlo.after (hostOps0.drop 18) (StableHlo.after (hostOps0.take 18) (fun b => m (c, b))) := by
    unfold V0
    rw [List.flatten_cons, List.flatten_nil, List.append_nil, ← after_two, List.take_append_drop]
  show V0 m c (Proc.devRef .tc main_v16) = _
  rw [e, late_v16, early_v9, early_v12, early_v15]

theorem norms_apply (n : Fin 8192) : V m c main_v3 (ix2 n 0) = ∑ k, ztab m c n k * ztab m c n k := by
  rw [V_norms]
  pointwise []
  rfl

theorem sizes_apply (n : Fin 8192) : V m c main_v6 (ix2 0 n) = ∑ k, etab m c n k * etab m c n k := by
  rw [V_sizes]
  pointwise []
  rfl

theorem codes_apply (k : Fin 32) (n : Fin 8192) : V m c main_v8 (ix2 k n) = etab m c n k := by
  rw [V_codes]
  pointwise []
  rfl

theorem places_apply (n : Fin 8192) : V m c main_v18 (ix2 0 n) = num n := by
  rw [V_places]
  pointwise []
  show (((BitVec.ofNat 32 n.val).toInt : ℝ) : EReal) = num n
  have hn := n.isLt
  have e : (BitVec.ofNat 32 n.val).toInt = (n.val : ℤ) := by
    have h : (BitVec.ofNat 32 n.val).toNat = n.val := by
      rw [BitVec.toNat_ofNat]; exact Nat.mod_eq_of_lt (by omega)
    rw [BitVec.toInt_eq_toNat_of_lt (by rw [h]; omega), h]
  rw [e, num, Int.cast_natCast]

theorem split0_apply (n : Fin 8192) (k : Fin 32) : V m c main_v16 (ix2 n ⟨k.val, by omega⟩) = etab m c n k := by
  rw [V_split]
  pointwise []
  rfl

/-- A finite number less itself is zero. -/
theorem sub_self_of {a : EReal} (h : a ≠ ⊤ ∧ a ≠ ⊥) : a - a = 0 := EReal.sub_self h.1 h.2

theorem split1_apply (he : ∀ n k, etab m c n k ≠ ⊤ ∧ etab m c n k ≠ ⊥) (n : Fin 8192) (k : Fin 32) : V m c main_v16 (ix2 n ⟨32 + k.val, by omega⟩) = (0 : EReal) := by
  rw [V_split]
  pointwise [rest1]
  exact sub_self_of (he n k)

theorem split2_apply (he : ∀ n k, etab m c n k ≠ ⊤ ∧ etab m c n k ≠ ⊥) (n : Fin 8192) (k : Fin 32) : V m c main_v16 (ix2 n ⟨64 + k.val, by omega⟩) = (0 : EReal) := by
  rw [V_split]
  pointwise [rest2, rest1]
  have h := sub_self_of (he n ⟨64 + k.val - 32 - 32, by omega⟩)
  rw [dif_neg (by omega), dif_neg (by omega)]
  show (etab m c n ⟨64 + k.val - 32 - 32, by omega⟩ - etab m c n ⟨64 + k.val - 32 - 32, by omega⟩)
    - (etab m c n ⟨64 + k.val - 32 - 32, by omega⟩ - etab m c n ⟨64 + k.val - 32 - 32, by omega⟩) = 0
  rw [h, sub_zero]

end Cert.KernelIdeal.Value

end
-- ==== Proof.Arrays.lean ====
/- What each grid point's blocks hold, over the table of rows and the table of codes. -/
module

public import proofs.«01_k».proof.Proof.Outs
public import proofs.«01_k».proof.Proof.BlockOut
public import proofs.«01_k».proof.Proof.Entry

@[expose] public section

set_option maxRecDepth 16384

noncomputable section

namespace Cert.KernelIdeal.Value

open Idealize.ShloMosaic Idealize.ShloMosaic.TcCoe Idealize.SL.Sem Cert.KernelIdeal Cert.KernelIdeal.Gen Cert.Search
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0]
    ∧ win0_4.index t = ![0, 0] ∧ win0_5.index t = ![0, 0] ∧ win0_6.index t = ![t.val, 0] ∧ win0_7.index t = ![t.val, 0]
    ∧ win0_8.index t = ![0, 0] ∧ win0_9.index t = ![0, 0] :=
  (by decide +kernel : ∀ t : Fin grid0.N, _)

/-- The row that place `r` of point `t`'s block holds. -/
def row (t : Fin cfg0.N) (r : Fin 256) : Fin 8192 :=
  ⟨t.val * 256 + r.val, by have := lt_of_lt_of_eq t.isLt (show cfg0.N = 32 from N_0); omega⟩

section
variable (t : Fin cfg0.N)

theorem in0 (r : Fin 256) (k : Fin 32) : iblk m c 0 t (ix2 r k) = ztab m c (row t r) k := by
  have h : iblk m c 0 t (ix2 r k) = V m c main_v0 (ix2 (row t r) k) := by
    blk_ext [iblk, idx t, row]
  rw [h, V_rows]
  rfl

theorem in1 (k : Fin 32) (n : Fin 8192) : iblk m c 1 t (ix2 k n) = etab m c n k := by
  have h : iblk m c 1 t (ix2 k n) = V m c main_v8 (ix2 k n) := by
    blk_ext [iblk, idx t]
  rw [h, codes_apply]

theorem in2 (n : Fin 8192) (k : Fin 96) : iblk m c 2 t (ix2 n k) = V m c main_v16 (ix2 n k) := by
  blk_ext [iblk, idx t]

theorem in3 (r : Fin 256) : iblk m c 3 t (ix2 r 0) = ∑ k, ztab m c (row t r) k * ztab m c (row t r) k := by
  have h : iblk m c 3 t (ix2 r 0) = V m c main_v3 (ix2 (row t r) 0) := by
    blk_ext [iblk, idx t, row]
  rw [h, norms_apply]

theorem in4 (n : Fin 8192) : iblk m c 4 t (ix2 0 n) = ∑ k, etab m c n k * etab m c n k := by
  have h : iblk m c 4 t (ix2 0 n) = V m c main_v6 (ix2 0 n) := by
    blk_ext [iblk, idx t]
  rw [h, sizes_apply]

theorem in5 (n : Fin 8192) : iblk m c 5 t (ix2 0 n) = num n := by
  have h : iblk m c 5 t (ix2 0 n) = V m c main_v18 (ix2 0 n) := by
    blk_ext [iblk, idx t]
  rw [h, places_apply]

/-- The distances of the block's rows to the codes. -/
theorem dist_at (r : Fin 256) :
    (fun n => k0_pay7 (iblk m c 0 t) (iblk m c 1 t) (iblk m c 3 t) (iblk m c 4 t) (ix2 r n)) = Coding.dist (ztab m c) (etab m c) (row t r) := by
  funext n
  rw [dist_apply, in3, in4]
  simp only [in0, in1]
  rfl

/-- The code that the row at place `r` takes. -/
abbrev taken (r : Fin 256) : Fin 8192 := Coding.code (ztab m c) (etab m c) (row t r)

theorem spots_at (r : Fin 256) : spots m c t (ix2 r 0) = num (taken m c t r) := by
  refine (placeOf_apply _ _ _ _ _ (in5 m c t) r).trans ?_
  rw [dist_at]
  rfl

theorem places8 (n : Fin 8192) : k0_pay8 (iblk m c 5 t) (ix2 0 n) = num n := by
  pointwise [k0_pay8]
  exact in5 m c t n

theorem rows6 (r : Fin 256) (k : Fin 32) : k0_pay6 (iblk m c 0 t) (ix2 r k) = ztab m c (row t r) k := by
  pointwise [k0_pay6]
  exact in0 m c t r k

/-- The places written out. -/
theorem places_at (r : Fin 256) : (outsAt0 m c t.val t.isLt).2.1 (ix2 r 0) = BitVec.ofNat 32 (taken m c t r).val := by
  rw [places_out]
  exact word_apply _ _ _ _ _ _ r _ (spots_at m c t r)

variable (he : ∀ n k, etab m c n k ≠ ⊤ ∧ etab m c n k ≠ ⊥)
include he

/-- The move of the row at place `r`. -/
theorem move_at (r : Fin 256) (k : Fin 32) :
    k0_pay19 (k0_pay6 (iblk m c 0 t)) (k0_pay8 (iblk m c 5 t)) (spots m c t) (iblk m c 2 t) (ix2 r k) = Coding.move (ztab m c) (etab m c) (row t r) k := by
  rw [move_apply _ _ _ _ (taken m c t) (places8 m c t) (spots_at m c t) (etab m c)
    (fun n k => (in2 m c t n _).trans (split0_apply m c n k)) (fun n k => (in2 m c t n _).trans (split1_apply m c he n k))
    (fun n k => (in2 m c t n _).trans (split2_apply m c he n k)), rows6]
  rfl

/-- The moved rows written out. -/
theorem rows_at (r : Fin 256) (k : Fin 32) :
    (outsAt0 m c t.val t.isLt).1 (ix2 r k) = ztab m c (row t r) k + Coding.move (ztab m c) (etab m c) (row t r) k := by
  rw [rows_out, moved_apply, move_at m c t he, rows6]

/-- A point's addition to the sum of squares. -/
theorem squares_at (acc : Vec Ideal S1x1 .f32) :
    squares m c t acc (ix2 0 0) = acc (ix2 0 0) + ∑ r, Coding.sqMove (ztab m c) (etab m c) (row t r) := by
  refine (squares_apply _ _ _ _ acc).trans ?_
  simp only [move_at m c t he]
  rfl

omit he in
/-- A point's addition to the count of a code. -/
theorem counts_at (acc : Vec Ideal S1x8192 .f32) (n : Fin 8192) :
    counts m c t acc (ix2 0 n) = acc (ix2 0 n) + ∑ r, if n = taken m c t r then (1 : EReal) else 0 := by
  refine (uses_apply _ _ acc n).trans ?_
  simp only [hot_apply _ _ (taken m c t) (places8 m c t) (spots_at m c t)]

end

end Cert.KernelIdeal.Value

end
-- ==== Proof.Final.lean ====
/- What the kernel's four arrays hold when its grid has run. -/
module

public import proofs.«01_k».proof.Proof.Arrays

@[expose] public section

set_option maxRecDepth 16384

noncomputable section

namespace Cert.KernelIdeal.Value

open Idealize.ShloMosaic Idealize.ShloMosaic.TcCoe Idealize.SL.Sem Cert.KernelIdeal Cert.KernelIdeal.Gen Cert.Search
open Idealize.ShloMosaic.Pipeline (Dat)

variable (m : (ℓ : Loc nD τ sig) → Buf (Elt Ideal) ℓ) (c : Dev nD)

/-- Where a point's block of rows lies in its array. -/
theorem emb6 (G : S8192x32.Idx → EReal) (t : Fin cfg0.N) (r : Fin 256) (k : Fin 32) :
    G ((win0_6.blk t).view.emb (ix2 r k)) = G (ix2 (row t r) k) := by
  blk_ext [idx t, row]

/-- Where a point's block of places lies in its array. -/
theorem emb7 (G : S8192x1.Idx → BitVec 32) (t : Fin cfg0.N) (r : Fin 256) :
    G ((win0_7.blk t).view.emb (ix2 r 0)) = G (ix2 (row t r) 0) := by
  blk_ext [idx t, row]

/-- The array of moved rows. -/
theorem final6 (he : ∀ n k, etab m c n k ≠ ⊤ ∧ etab m c n k ≠ ⊥) (G : S8192x32.Idx → EReal)
    (hG : ∀ n k, G (ix2 n k) = ztab m c n k + Coding.move (ztab m c) (etab m c) n k) : (dats m 0 c).arrAt 6 (cfgs 0).N = G := by
  refine (dats m 0 c).arrAt_eq_of_covers 6 _ (by decide +kernel) fun t hf y => ?_
  blk_simp
  rw [after0_6]
  obtain ⟨r, k, rfl⟩ : ∃ (r : Fin 256) (k : Fin 32), y = ix2 r k := ⟨y 0, y 1, eq_ix2 y⟩
  exact (rows_at m c t he r k).trans ((hG _ _).symm.trans (emb6 G t r k).symm)

/-- The array of places. -/
theorem final7 (G : S8192x1.Idx → BitVec 32)
    (hG : ∀ n, G (ix2 n 0) = BitVec.ofNat 32 (Coding.code (ztab m c) (etab m c) n).val) : (dats m 0 c).arrAt 7 (cfgs 0).N = G := by
  refine (dats m 0 c).arrAt_eq_of_covers 7 _ (by decide +kernel) fun t hf y => ?_
  blk_simp
  rw [after0_7]
  obtain ⟨r, rfl⟩ : ∃ r : Fin 256, y = ix2 r 0 := ⟨y 0, (eq_ix2 y).trans (congrArg (ix2 (y 0)) (Subsingleton.elim (α := Fin 1) _ _))⟩
  exact (places_at m c t r).trans ((hG _).symm.trans (emb7 G t r).symm)

/-- The array of the loss: `v`, when the last point leaves `v`. -/
theorem final8 (v : EReal) (hv : ∀ t : Fin cfg0.N, t.val = 31 → (outsAt0 m c t.val t.isLt).2.2.1 (ix2 0 0) = v) : (dats m 0 c).arrAt 8 (cfgs 0).N
    = (fun j => v : S1x1.Idx → EReal) := by
  refine (dats m 0 c).arrAt_eq_of_covers 8 _ (by decide +kernel) fun t hf y => ?_
  blk_simp
  rw [after0_8]
  obtain rfl : y = ix2 0 0 := (eq_ix2 y).trans (congrArg₂ ix2 (Subsingleton.elim (α := Fin 1) _ _) (Subsingleton.elim (α := Fin 1) _ _))
  have hl := (flush0_8 t).mp hf
  have hN := lt_of_lt_of_eq t.isLt (show cfg0.N = 32 from N_0)
  exact hv t (by omega)

/-- The array of the number of codes not taken: `v`, when the last point leaves `v`. -/
theorem final9 (v : BitVec 32) (hv : ∀ t : Fin cfg0.N, t.val = 31 → (outsAt0 m c t.val t.isLt).2.2.2.1 (ix2 0 0) = v) : (dats m 0 c).arrAt 9 (cfgs 0).N
    = (fun j => v : S1x1.Idx → BitVec 32) := by
  refine (dats m 0 c).arrAt_eq_of_covers 9 _ (by decide +kernel) fun t hf y => ?_
  blk_simp
  rw [after0_9]
  obtain rfl : y = ix2 0 0 := (eq_ix2 y).trans (congrArg₂ ix2 (Subsingleton.elim (α := Fin 1) _ _) (Subsingleton.elim (α := Fin 1) _ _))
  have hl := (flush0_9 t).mp hf
  have hN := lt_of_lt_of_eq t.isLt (show cfg0.N = 32 from N_0)
  exact hv t (by omega)

end Cert.KernelIdeal.Value

end
-- ==== Proof.Tail.lean ====
/- The kernel's four results: its arrays, put in the results' layouts. -/
module

public import proofs.«01_k».proof.Proof.Final

@[expose] public section

set_option maxRecDepth 16384

noncomputable section

namespace Cert.KernelIdeal.Value

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- The first result is the array of written rows, eight batches of 1024. -/
theorem tail_v20 : Pipeline.afterTail₀ cfgs (dats m) 0 (V0 m) [hostOps1] c main_v20
    = shapeCast S8x1024x32 ((dats m 0 c).arrAt 6 (cfgs 0).N) shapeCasts_S8192x32_S8x1024x32 := by
  unfold Pipeline.afterTail₀
  simp only [hostOps1, List.flatten_cons, List.flatten_nil, List.append_nil]
  after_results_simp
  exact congrArg (fun a => shapeCast S8x1024x32 a shapeCasts_S8192x32_S8x1024x32)
    (Pipeline.withArrays_arr (cfgs 0).spec launch0.win.arr_inj c (V0 m c) (fun w => (dats m 0 c).arrAt w (cfgs 0).N) 6)

/-- The fourth result is the array of codes taken, eight batches of 1024. -/
theorem tail_v23 : Pipeline.afterTail₀ cfgs (dats m) 0 (V0 m) [hostOps1] c main_v23
    = shapeCast S8x1024 ((dats m 0 c).arrAt 7 (cfgs 0).N) shapeCasts_S8192x1_S8x1024 := by
  unfold Pipeline.afterTail₀
  simp only [hostOps1, List.flatten_cons, List.flatten_nil, List.append_nil]
  after_results_simp
  exact congrArg (fun a => shapeCast S8x1024 a shapeCasts_S8192x1_S8x1024)
    (Pipeline.withArrays_arr (cfgs 0).spec launch0.win.arr_inj c (V0 m c) (fun w => (dats m 0 c).arrAt w (cfgs 0).N) 7)

/-- The second result is the one loss. -/
theorem tail_v21 : Pipeline.afterTail₀ cfgs (dats m) 0 (V0 m) [hostOps1] c main_v21
    = shapeCast S_ ((dats m 0 c).arrAt 8 (cfgs 0).N) shapeCasts_S1x1_S_ := by
  unfold Pipeline.afterTail₀
  simp only [hostOps1, List.flatten_cons, List.flatten_nil, List.append_nil]
  after_results_simp
  exact congrArg (fun a => shapeCast S_ a shapeCasts_S1x1_S_)
    (Pipeline.withArrays_arr (cfgs 0).spec launch0.win.arr_inj c (V0 m c) (fun w => (dats m 0 c).arrAt w (cfgs 0).N) 8)

/-- The third result is the one count of unused codes. -/
theorem tail_v22 : Pipeline.afterTail₀ cfgs (dats m) 0 (V0 m) [hostOps1] c main_v22
    = shapeCast S_ ((dats m 0 c).arrAt 9 (cfgs 0).N) shapeCasts_S1x1_S_ := by
  unfold Pipeline.afterTail₀
  simp only [hostOps1, List.flatten_cons, List.flatten_nil, List.append_nil]
  after_results_simp
  exact congrArg (fun a => shapeCast S_ a shapeCasts_S1x1_S_)
    (Pipeline.withArrays_arr (cfgs 0).spec launch0.win.arr_inj c (V0 m c) (fun w => (dats m 0 c).arrAt w (cfgs 0).N) 9)

end Cert.KernelIdeal.Value

end
-- ==== Proof.Totals.lean ====
/- The two running totals of the kernel over its grid: the sum of squares and the counts of uses. -/
module

public import proofs.«01_k».proof.Proof.Arrays

@[expose] public section

set_option maxRecDepth 16384

noncomputable section

namespace Cert.KernelIdeal.Value

open Idealize.ShloMosaic Idealize.ShloMosaic.TcCoe Idealize.SL.Sem Cert.KernelIdeal Cert.KernelIdeal.Gen Cert.Search

/-- A sum over all rows is a sum over the points and their places. -/
theorem sum_rows (f : Fin 8192 → EReal) : ∑ n, f n = ∑ t : Fin cfg0.N, ∑ r : Fin 256, f (row t r) := by
  have hN : cfg0.N = 32 := N_0
  rw [← Fintype.sum_prod_type' (f := fun (t : Fin cfg0.N) (r : Fin 256) => f (row t r))]
  symm
  refine Fintype.sum_bijective (fun p : Fin cfg0.N × Fin 256 => row p.1 p.2) ⟨fun p q h => ?_, fun n => ?_⟩ _ _ fun p => rfl
  · have h' : p.1.val * 256 + p.2.val = q.1.val * 256 + q.2.val := congrArg Fin.val h
    have h1 := p.2.isLt
    have h2 := q.2.isLt
    exact Prod.ext (Fin.ext (by omega)) (Fin.ext (by omega))
  · have hn := n.isLt
    refine ⟨(⟨n.val / 256, by omega⟩, ⟨n.val % 256, Nat.mod_lt _ (by decide)⟩), Fin.ext ?_⟩
    show n.val / 256 * 256 + n.val % 256 = n.val
    omega

/-- Every row is some point's. -/
theorem row_surj (n : Fin 8192) : ∃ (t : Fin cfg0.N) (r : Fin 256), row t r = n := by
  have hN : cfg0.N = 32 := N_0
  have hn := n.isLt
  refine ⟨⟨n.val / 256, by omega⟩, ⟨n.val % 256, Nat.mod_lt _ (by decide)⟩, Fin.ext ?_⟩
  show n.val / 256 * 256 + n.val % 256 = n.val
  omega

variable (m : (ℓ : Loc nD τ sig) → Buf (Elt Ideal) ℓ) (c : Dev nD)

/-- The squares that point `s` adds. -/
def part (s : ℕ) : EReal := if h : s < cfg0.N then ∑ r, Coding.sqMove (ztab m c) (etab m c) (row ⟨s, h⟩ r) else 0

/-- All squares, a point at a time. -/
theorem sum_parts : ∑ s ∈ Finset.range cfg0.N, part m c s = ∑ n, Coding.sqMove (ztab m c) (etab m c) n := by
  rw [sum_rows, Finset.sum_range]
  refine Finset.sum_congr rfl fun t _ => ?_
  unfold part
  rw [dif_pos t.isLt]

section
variable (he : ∀ n k, etab m c n k ≠ ⊤ ∧ etab m c n k ≠ ⊥)
include he

/-- The sum of squares after a point that is not the last. -/
theorem squares_upto : ∀ (n : ℕ) (h : n < cfg0.N), n < 31 → (outsAt0 m c n h).2.2.1 (ix2 0 0) = ∑ s ∈ Finset.range (n + 1), part m c s
  | 0, h, _ => by
    obtain ⟨z, hz, e⟩ := squares_first m c ⟨0, h⟩ (Nat.zero_mod 32) (by show ¬ 0 % 32 = 31; decide)
    refine (congrFun e (ix2 0 0)).trans ?_
    rw [squares_at m c ⟨0, h⟩ he, hz, Finset.sum_range_one, zero_add, part, dif_pos h]
  | n + 1, h, hn => by
    have ih := squares_upto n (Nat.lt_of_succ_lt h) (by omega)
    refine (congrFun (squares_next m c ⟨n + 1, h⟩ (by show ¬ (n + 1) % 32 = 0; omega) (by show ¬ (n + 1) % 32 = 31; omega)) (ix2 0 0)).trans ?_
    rw [squares_at m c ⟨n + 1, h⟩ he, Finset.sum_range_succ _ (n + 1)]
    refine congrArg₂ (fun a b : EReal => a + b) ih ?_
    rw [part, dif_pos h]

/-- The loss written at the last point. -/
theorem loss_last (t : Fin cfg0.N) (ht : t.val = 31) :
    (outsAt0 m c t.val t.isLt).2.2.1 (ix2 0 0)
      = Ideal.div (∑ n, Coding.sqMove (ztab m c) (etab m c) n) (Ideal.ofBits .f32 0x48800000#32)
        + Ideal.ofBits .f32 0x3E800000#32 * Ideal.div (∑ n, Coding.sqMove (ztab m c) (etab m c) n) (Ideal.ofBits .f32 0x48800000#32) := by
  rw [squares_last m c t (by omega) (by omega), mean_apply]
  have h : squares m c t (outsAt0 m c (t.val - 1) (prev_lt t)).2.2.1 (ix2 0 0) = ∑ n, Coding.sqMove (ztab m c) (etab m c) n := by
    rw [squares_at m c t he, squares_upto m c he (t.val - 1) (prev_lt t) (by omega), ← sum_parts m c]
    have hN : cfg0.N = 32 := N_0
    have e : t.val - 1 + 1 = 31 := by omega
    have e1 : ∑ s ∈ Finset.range cfg0.N, part m c s = ∑ s ∈ Finset.range 31, part m c s + part m c 31 := by
      rw [hN]
      exact Finset.sum_range_succ _ 31
    rw [e1, e]
    refine congrArg (fun a : EReal => _ + a) ?_
    have e' : t = ⟨31, by omega⟩ := Fin.ext ht
    rw [part, dif_pos (by omega), e']
  exact congrArg (fun a : EReal => Ideal.div a (Ideal.ofBits .f32 0x48800000#32)
        + Ideal.ofBits .f32 0x3E800000#32 * Ideal.div a (Ideal.ofBits .f32 0x48800000#32)) h

end

/-- One point more of the counts: a count is zero as long as nothing took the code. -/
theorem counts_step (t : Fin cfg0.N) (acc : Vec Ideal S1x8192 .f32) (k : Fin 8192) (P : Prop)
    (h : (0 : EReal) ≤ acc (ix2 0 k) ∧ (acc (ix2 0 k) = (0 : EReal) ↔ P)) :
    (0 : EReal) ≤ counts m c t acc (ix2 0 k) ∧ (counts m c t acc (ix2 0 k) = (0 : EReal) ↔ P ∧ ∀ r, taken m c t r ≠ k) := by
  have hs : ∀ r : Fin 256, (0 : EReal) ≤ if k = taken m c t r then (1 : EReal) else 0 := fun r => by
    split
    · exact zero_le_one
    · exact le_rfl
  have hS : (0 : EReal) ≤ ∑ r : Fin 256, if k = taken m c t r then (1 : EReal) else 0 := Finset.sum_nonneg fun r _ => hs r
  rw [counts_at]
  refine ⟨add_nonneg h.1 hS, ?_⟩
  rw [add_eq_zero_iff_of_nonneg h.1 hS, h.2, Finset.sum_eq_zero_iff_of_nonneg fun r _ => hs r]
  refine and_congr_right fun _ => ⟨fun g r e => ?_, fun g r _ => if_neg fun e => g r e.symm⟩
  have := g r (Finset.mem_univ _)
  rw [if_pos e.symm] at this
  exact one_ne_zero this

/-- A count after a point that is not the last. -/
theorem counts_upto (k : Fin 8192) : ∀ (n : ℕ) (h : n < cfg0.N), n < 31 →
    (0 : EReal) ≤ (outsAt0 m c n h).2.2.2.2 (ix2 0 k)
      ∧ ((outsAt0 m c n h).2.2.2.2 (ix2 0 k) = (0 : EReal) ↔ ∀ t : Fin cfg0.N, t.val < n + 1 → ∀ r, taken m c t r ≠ k)
  | 0, h, _ => by
    have hz : k0_pay3 (F := Ideal) (ix2 0 k) = (0 : EReal) := by pointwise [k0_pay3]
    have s := counts_step m c ⟨0, h⟩ (k0_pay3 (F := Ideal)) k True ⟨hz.ge, by rw [hz]; simp⟩
    have e := congrFun (counts_first m c ⟨0, h⟩ (Nat.zero_mod 32) (by show ¬ 0 % 32 = 31; decide)) (ix2 0 k)
    rw [← e] at s
    refine ⟨s.1, s.2.trans ⟨fun g t ht r => ?_, fun g => ⟨trivial, g ⟨0, h⟩ Nat.one_pos⟩⟩⟩
    have : t = ⟨0, h⟩ := Fin.ext (by show t.val = 0; omega)
    exact this ▸ g.2 r
  | n + 1, h, hn => by
    have ih := counts_upto k n (Nat.lt_of_succ_lt h) (by omega)
    have s := counts_step m c ⟨n + 1, h⟩ _ k _ ih
    have e := congrFun (counts_next m c ⟨n + 1, h⟩ (by show ¬ (n + 1) % 32 = 0; omega) (by show ¬ (n + 1) % 32 = 31; omega)) (ix2 0 k)
    refine ⟨e ▸ s.1, (iff_of_eq (congrArg (· = (0 : EReal)) e)).trans (s.2.trans ⟨fun g t ht r => ?_, fun g => ⟨fun t ht => g t (by omega), g ⟨n + 1, h⟩ (by show n + 1 < _; omega)⟩⟩)⟩
    by_cases hc : t.val < n + 1
    · exact g.1 t hc r
    · have : t = ⟨n + 1, h⟩ := Fin.ext (by show t.val = n + 1; omega)
      exact this ▸ g.2 r

/-- The number of codes not taken, written at the last point. -/
theorem unused_last_apply (t : Fin cfg0.N) (ht : t.val = 31) :
    (outsAt0 m c t.val t.isLt).2.2.2.1 (ix2 0 0) = BitVec.ofNat 32 (Coding.unused (ztab m c) (etab m c)) := by
  rw [unused_last m c t (by omega) (by omega)]
  delta Coding.unused
  refine (zeros_apply _ (fun k => ∀ n, Coding.code (ztab m c) (etab m c) n ≠ k) fun k => ?_).trans
    (congrArg (BitVec.ofNat 32) (congrArg Finset.card (Finset.ext fun k => by simp only [Finset.mem_filter, Finset.mem_univ, true_and])))
  have hN : cfg0.N = 32 := N_0
  refine (counts_step m c t _ k _ (counts_upto m c k (t.val - 1) (prev_lt t) (by omega))).2.trans ⟨fun g n => ?_, fun g => ⟨fun s _ r => g _, fun r => g _⟩⟩
  obtain ⟨s, r, rfl⟩ := row_surj n
  by_cases hs : s.val < t.val - 1 + 1
  · exact g.1 s hs r
  · have hb := s.isLt
    have : s = t := Fin.ext (by omega)
    exact this ▸ g.2 r

end Cert.KernelIdeal.Value

end
-- ==== Proof.RefDist.lean ====
/- The reference's table of distances, and the place of the least entry of each of its rows. -/
module

public import proofs.«01_k».proof.Proof.RefRun
public import proofs.«01_k».proof.Proof.Coding
public import Idealize.ShloMosaic.Lib.Pointwise

@[expose] public section

set_option maxRecDepth 16384

noncomputable section

namespace Cert.ReferenceIdeal.Value

open Idealize.ShloMosaic Idealize.ShloMosaic.TcCoe Idealize.SL.Sem Cert.ReferenceIdeal

/-- An array of 8192 rows of 32 as a table. -/
def tab (z : FVec Ideal S8192x32 .f32) : Coding.Table := fun n k => z (ix2 n k)

theorem ofBits_two : Ideal.ofBits .f32 0x40000000#32 = (2 : EReal) := by
  simp only [Ideal.ofBits, Ideal.ieee]
  simp
  norm_cast
  norm_num
  rfl

/-- An entry of the table of distances. -/
theorem dist_apply (z e : FVec Ideal S8192x32 .f32) (n c : Fin 8192) :
    dist z e (ix2 n c) = Coding.dist (tab z) (tab e) n c := by
  pointwise [dist, gap]
  rw [ofBits_two]
  rfl

/-- One of two pairs, as the search chooses. -/
theorem reducer_apply (a b : EReal × BitVec 32) :
    reducer_argmin_f32_i32 (F := Ideal) a b
      = (if a.1 < b.1 then a.1 else b.1, if a.1 < b.1 ∨ (a.1 = b.1 ∧ a.2.slt b.2) then a.2 else b.2) := by
  obtain ⟨a1, a2⟩ := a
  obtain ⟨b1, b2⟩ := b
  by_cases h1 : a1 < b1 <;> by_cases h2 : a1 = b1 <;> cases h3 : a2.slt b2 <;>
    simp [reducer_argmin_f32_i32, Ideal.cmpf_def, Ideal.cmp, IntOp.cmpi, IntOp.ori, IntOp.andi, Scalar.select, h1, h2, h3]
/-- The search over a list of pairs, each a value of the row and its place, ends at a pair that no
    pair met comes before. -/
theorem search_spec {ι : Type} {N : ℕ} [NeZero N] (hN : N < 2 ^ 31) (d : Fin N → EReal)
    (p : ι → EReal × BitVec 32) (f : ι → Fin N) :
    ∀ (l : List ι) (r : EReal × BitVec 32) (k : Fin N), (∀ i ∈ l, p i = (d (f i), BitVec.ofNat 32 (f i).val)) →
      r.2 = BitVec.ofNat 32 k.val → (r.1 = d k ∨ (r.1 = ⊤ ∧ k = 0)) →
      ∃ k' : Fin N, (l.foldl (fun a i => reducer_argmin_f32_i32 (F := Ideal) a (p i)) r).2 = BitVec.ofNat 32 k'.val ∧
        ∃ v : EReal, (v = d k' ∨ (v = ⊤ ∧ k' = 0)) ∧ (v < r.1 ∨ (v = r.1 ∧ k' ≤ k)) ∧
          ∀ i ∈ l, v < d (f i) ∨ (v = d (f i) ∧ k' ≤ f i) := by
  intro l
  induction l with
  | nil =>
    intro r k hp hr2 hr1
    exact ⟨k, hr2, r.1, hr1, Or.inr ⟨rfl, le_rfl⟩, fun i hi => nomatch hi⟩
  | cons i l ih =>
    intro r k hp hr2 hr1
    have hpi := hp i (List.mem_cons_self ..)
    have hp' : ∀ i ∈ l, p i = (d (f i), BitVec.ofNat 32 (f i).val) := fun i hi => hp i (List.mem_cons_of_mem _ hi)
    have hslt : (BitVec.ofNat 32 k.val).slt (BitVec.ofNat 32 (f i).val) = decide (k < f i) := by
      have h1 := k.isLt
      have h2 := (f i).isLt
      have e : ∀ a : ℕ, a < N → (BitVec.ofNat 32 a).toInt = a := fun a ha => by
        rw [BitVec.toInt_eq_toNat_of_lt (by rw [BitVec.toNat_ofNat, Nat.mod_eq_of_lt (by omega)]; omega),
          BitVec.toNat_ofNat, Nat.mod_eq_of_lt (by omega)]
      rw [BitVec.slt_eq_decide, e _ h1, e _ h2]
      exact decide_eq_decide.2 (by rw [Fin.lt_def, Nat.cast_lt])
    rw [List.foldl_cons, reducer_apply, hpi]
    simp only [hr2, hslt, decide_eq_true_eq]
    by_cases hlt : r.1 < d (f i)
    · rw [if_pos hlt, if_pos (Or.inl hlt)]
      obtain ⟨k', h1, v, h2, h3, h4⟩ := ih (r.1, BitVec.ofNat 32 k.val) k hp' rfl hr1
      refine ⟨k', h1, v, h2, h3, fun a ha => ?_⟩
      rcases List.mem_cons.1 ha with rfl | ha
      · rcases h3 with h3 | h3
        · exact Or.inl (h3.trans hlt)
        · exact Or.inl (h3.1 ▸ hlt)
      · exact h4 a ha
    · rw [if_neg hlt]
      by_cases hc : r.1 = d (f i) ∧ k < f i
      · rw [if_pos (Or.inr hc)]
        obtain ⟨k', h1, v, h2, h3, h4⟩ := ih (d (f i), BitVec.ofNat 32 k.val) k hp' rfl (hc.1 ▸ hr1)
        refine ⟨k', h1, v, h2, hc.1 ▸ h3, fun a ha => ?_⟩
        rcases List.mem_cons.1 ha with rfl | ha
        · rcases h3 with h3 | h3
          · exact Or.inl h3
          · exact Or.inr ⟨h3.1, h3.2.trans hc.2.le⟩
        · exact h4 a ha
      · rw [if_neg (by rintro (h | h); exacts [hlt h, hc h])]
        obtain ⟨k', h1, v, h2, h3, h4⟩ := ih (d (f i), BitVec.ofNat 32 (f i).val) (f i) hp' rfl (Or.inl rfl)
        refine ⟨k', h1, v, h2, ?_, fun a ha => ?_⟩
        · rcases (not_lt.mp hlt).lt_or_eq with h | h
          · rcases h3 with h3 | h3
            · exact Or.inl (h3.trans h)
            · exact Or.inl (h3.1 ▸ h)
          · have hk : f i ≤ k := not_lt.mp fun hk => hc ⟨h.symm, hk⟩
            rcases h3 with h3 | h3
            · exact Or.inl (h ▸ h3)
            · exact Or.inr ⟨h ▸ h3.1, h3.2.trans hk⟩
        · rcases List.mem_cons.1 ha with rfl | ha
          · exact h3
          · exact h4 a ha

/-- The place the search of row `n` of a table of `M` by `N` ends at is the first of its least value. -/
theorem argReduce_first {M N : ℕ} [NeZero N] (hN : N < 2 ^ 31)
    (h : (⟨2, ![M, N]⟩ : Shape).ReducesTo [1] ⟨1, ![M]⟩) (hu : 0 < S_.numel)
    (d : FVec Ideal ⟨2, ![M, N]⟩ .f32) (y : IVec ⟨2, ![M, N]⟩ 32) (iv : FVec Ideal S_ .f32) (iw : IVec S_ 32)
    (hy : ∀ n c, y (ix2 n c) = BitVec.ofNat 32 c.val) (hv : iv (Shape.Idx.first hu) = ⊤)
    (hw : iw (Shape.Idx.first hu) = 0#32) (n : Fin M) :
    (Host.argReduce reducer_argmin_f32_i32 d y iv iw h hu (ix1 n)).2
      = BitVec.ofNat 32 (FirstMin.first fun c => d (ix2 n c)).val := by
  rw [Ideal.argReduce_eq_reduce2]
  unfold Host.reduce2
  rw [hv, hw]
  have hdrop : ∀ i : (⟨2, ![M, N]⟩ : Shape).Idx, h.drop i = ix1 n ↔ i 0 = n := by
    intro i
    have h : h.drop i = ix1 (i 0) := funext fun b => by
      obtain rfl : b = 0 := Subsingleton.elim _ _
      exact Fin.ext (h.drop_apply_val_of_eq i 0 0 (by show 0 < ([0] : List (Fin 2)).length; decide) rfl)
    rw [h]
    exact ix1_inj _ _
  obtain ⟨k, h1, v, h2, -, h4⟩ := search_spec hN (fun c => d (ix2 n c))
    (fun i : Fin (⟨2, ![M, N]⟩ : Shape).numel => (d ((⟨2, ![M, N]⟩ : Shape).rowMajor.symm i), y ((⟨2, ![M, N]⟩ : Shape).rowMajor.symm i)))
    (fun i => (⟨2, ![M, N]⟩ : Shape).rowMajor.symm i 1)
    ((List.finRange (⟨2, ![M, N]⟩ : Shape).numel).filter fun i => h.drop ((⟨2, ![M, N]⟩ : Shape).rowMajor.symm i) = ix1 n)
    (⊤, 0#32) 0
    (fun i hi => by
      have h0 := (hdrop _).1 (of_decide_eq_true (List.mem_filter.1 hi).2)
      generalize (⟨2, ![M, N]⟩ : Shape).rowMajor.symm i = a at h0
      obtain rfl := h0
      rw [eq_ix2 a]
      exact Prod.ext rfl (hy _ _))
    rfl (Or.inr ⟨rfl, rfl⟩)
  have hall : ∀ c : Fin N, v < d (ix2 n c) ∨ (v = d (ix2 n c) ∧ k ≤ c) := by
    intro c
    have := h4 ((⟨2, ![M, N]⟩ : Shape).rowMajor (ix2 n c)) (List.mem_filter.2 ⟨List.mem_finRange _, by
      rw [Equiv.symm_apply_apply]
      exact decide_eq_true ((hdrop _).2 rfl)⟩)
    rw [Equiv.symm_apply_apply] at this
    exact this
  have hk : k = FirstMin.first fun c => d (ix2 n c) := by
    refine FirstMin.IsFirst.eq_first ?_
    rcases h2 with h2 | ⟨h2, h0⟩
    · subst h2
      refine ⟨fun c => ?_, fun c hc => ?_⟩
      · rcases hall c with h | h
        · exact h.le
        · exact h.1.le
      · rcases hall c with h | h
        · exact h
        · exact absurd hc (not_lt.mpr h.2)
    · subst h2
      subst h0
      refine ⟨fun c => ?_, fun c hc => absurd hc (Fin.not_lt_zero c)⟩
      rcases hall c with h | h
      · exact absurd h not_top_lt
      · exact (top_le_iff.2 h.1.symm).trans' le_top
  rw [← hk, ← h1]

theorem ofBits_inf : Ideal.ofBits .f32 0x7F800000#32 = (⊤ : EReal) := by
  simp [Ideal.ofBits, Ideal.ieee]

/-- The search, written out. -/
theorem least_eq (d : FVec Ideal S8192x8192 .f32) : least d = fun j =>
    (Host.argReduce reducer_argmin_f32_i32 d (iotaInDim S8192x8192 32 1) (constant (F := Ideal) S_ .f32 0x7F800000#32)
      (constantI S_ 32 0#32) Gen.reducesTo_S8192x8192_S8192_d1 Gen.h_S_ j).2 := rfl

/-- The place the search of a row ends at is the first of its least value. -/
theorem least_apply (d : FVec Ideal S8192x8192 .f32) (n : Fin 8192) :
    least d (ix1 n) = BitVec.ofNat 32 (FirstMin.first fun c => d (ix2 n c)).val :=
  (congrFun (least_eq d) (ix1 n)).trans
    (argReduce_first (M := 8192) (N := 8192) (by norm_num) Gen.reducesTo_S8192x8192_S8192_d1 Gen.h_S_ d
      (iotaInDim S8192x8192 32 1) (constant S_ .f32 0x7F800000#32) (constantI S_ 32 0#32)
      (fun _ _ => rfl) ofBits_inf rfl n)

/-- The place every row takes. -/
theorem least_dist (z e : FVec Ideal S8192x32 .f32) (n : Fin 8192) :
    least (dist z e) (ix1 n) = BitVec.ofNat 32 (Coding.code (tab z) (tab e) n).val := by
  rw [least_apply]
  simp only [dist_apply]
  rfl

end Cert.ReferenceIdeal.Value

end
-- ==== Proof.RefTake.lean ====
/- The reference's other operations on the places: the codes taken there, and the count of the codes
   no row took. -/
module

public import proofs.«01_k».proof.Proof.RefDist
public import Idealize.ShloMosaic.Lib.Routing.Ops
public import Idealize.ShloMosaic.Lib.Routing.OpsPair
public import Idealize.ShloMosaic.Lib.Routing.Count
public import Idealize.ShloMosaic.Lib.ReduceAll
public import Idealize.ShloMosaic.Lib.IndicatorCount

@[expose] public section

set_option maxRecDepth 16384

noncomputable section

namespace Cert.ReferenceIdeal.Value

open Idealize.ShloMosaic Idealize.ShloMosaic.TcCoe Idealize.SL.Sem Cert.ReferenceIdeal

variable {i : IVec S8192 32} {g : Fin 8192 → Fin 8192}

/-- The place `g` of a row as a word is not below zero. -/
theorem toNat_lt (a : Fin 8192) : (BitVec.ofNat 32 a.val).toNat < 2 ^ (32 - 1) := by
  have := a.isLt
  rw [BitVec.toNat_ofNat, Nat.mod_eq_of_lt (by omega)]; omega

theorem toInt_eq (a : Fin 8192) : (BitVec.ofNat 32 a.val).toInt = a.val := by
  have := a.isLt
  rw [BitVec.toInt_eq_toNat_of_lt (by rw [BitVec.toNat_ofNat, Nat.mod_eq_of_lt (by omega)]; omega),
    BitVec.toNat_ofNat, Nat.mod_eq_of_lt (by omega)]

/-- Counting from the end changes no place of the table. -/
theorem wrap_apply (hi : ∀ n, i (ix1 n) = BitVec.ofNat 32 (g n).val) (n : Fin 8192) :
    wrap i (ix1 n) = BitVec.ofNat 32 (g n).val := by
  pointwise [wrap]
  rw [hi, Routing.wrap_of_lt _ _ (toNat_lt _)]

/-- Nor does raising it to zero. -/
theorem clip_apply (hi : ∀ n, i (ix1 n) = BitVec.ofNat 32 (g n).val) (n : Fin 8192) :
    maxsi (broadcastInDim S8192 ![] Gen.bcast_S_S8192 (constantI S_ 32 0#32)) i (ix1 n) = BitVec.ofNat 32 (g n).val := by
  pointwise []
  rw [hi]
  unfold IntOp.maxsi
  rw [BitVec.slt_eq_decide, toInt_eq]
  have h0 : (0#32).toInt = 0 := rfl
  rw [h0]
  rcases Nat.eq_zero_or_pos (g n).val with h | h
  · rw [h]; simp
  · simp [h]

/-- The column of places. -/
theorem column_apply (hi : ∀ n, i (ix1 n) = BitVec.ofNat 32 (g n).val) (n : Fin 8192) :
    column i (ix2 n 0) = BitVec.ofNat 32 (g n).val := by
  pointwise [column]
  exact wrap_apply hi n

/-- Every place lies in the table. -/
theorem inside_apply (hi : ∀ n, i (ix1 n) = BitVec.ofNat 32 (g n).val) (n : Fin 8192) : inside i (ix1 n) = 1#1 := by
  delta inside
  refine Host.reduce_andi_one _ _ _ _ _ rfl fun j => ?_
  obtain ⟨r, rfl⟩ : ∃ r : Fin 8192, j = ix2 r 0 := ⟨j 0, by
    rw [eq_ix2 j]
    exact congrArg (ix2 (j 0)) (Subsingleton.elim _ _)⟩
  pointwise []
  rw [column_apply hi]
  have h := (g r).isLt
  have e1 : (8191#32).toInt = 8191 := rfl
  have e0 : (0#32).toInt = 0 := rfl
  simp only [IntOp.cmpi, IntOp.andi, BitVec.slt_eq_decide, BitVec.sle_eq_decide, toInt_eq, e0, e1]
  rw [decide_eq_true (by omega), decide_eq_true (by omega)]
  rfl

/-- The code taken by row `n`. -/
theorem taken_apply (e : FVec Ideal S8192x32 .f32) (hi : ∀ n, i (ix1 n) = BitVec.ofNat 32 (g n).val) (n : Fin 8192)
    (k : Fin 32) : taken e i (ix2 n k) = e (ix2 (g n) k) := by
  pointwise [taken]
  rw [inside_apply hi]
  exact Routing.gather_row gather_S8192x32_S8192x1_S8192x32_1_0_n_n_0_1_132 rfl rfl rfl rfl rfl e (column i) n k (g n)
    (column_apply hi n) (by norm_num)

/-- How many rows took code `c`. -/
theorem uses_apply (hi : ∀ n, i (ix1 n) = BitVec.ofNat 32 (g n).val) (c : Fin 8192) :
    uses i (ix1 c) = BitVec.ofNat 32 (Finset.univ.filter fun n => g n = c).card := by
  delta uses
  have h := Routing.scatter_hist scatter_S8192_S8192x1_S8192_n_0_0_1 rfl rfl rfl
    (broadcastInDim S8192 ![] Gen.bcast_S_S8192 (constantI S_ 32 0#32)) (fun i => by pointwise [])
    (broadcastInDim S8192x1 ![0] Gen.bcast_S8192_S8192x1_0
      (wrap (maxsi (broadcastInDim S8192 ![] Gen.bcast_S_S8192 (constantI S_ 32 0#32)) i)))
    (broadcastInDim S8192 ![] Gen.bcast_S_S8192 (constantI S_ 32 1#32)) (fun i => by pointwise [])
    (fun a => if h : a < 8192 then (g ⟨a, h⟩).val else 0)
    (fun n => by
      refine (column_apply (clip_apply hi) n).trans ?_
      rw [dif_pos n.isLt])
    (fun n => by rw [dif_pos n.isLt]; have := (g n).isLt; omega) c
  refine h.trans (congrArg (BitVec.ofNat 32) ?_)
  rw [← Routing.card_filter_fin]
  refine congrArg Finset.card (Finset.filter_congr fun n _ => ?_)
  rw [dif_pos n.isLt]
  exact Fin.ext_iff.symm

theorem list_sum (N : ℕ) (f : ℕ → ℕ) : ((List.range N).map f).sum = ∑ a ∈ Finset.range N, f a := by
  induction N with
  | zero => rfl
  | succ N ih => rw [List.range_succ, List.map_append, List.sum_append, ih, Finset.sum_range_succ]; simp

/-- How many codes no row took. -/
theorem unused_apply (hi : ∀ n, i (ix1 n) = BitVec.ofNat 32 (g n).val) (j : S_.Idx) :
    unused i j = BitVec.ofNat 32 (Finset.univ.filter fun c => ∀ n, g n ≠ c).card := by
  have hj : j = ValueIdx.ix0 := funext fun a => a.elim0
  subst hj
  delta unused
  have h := Routing.reduce_sum
    (extui 32 (cmpi .eq (uses i) (broadcastInDim S8192 ![] Gen.bcast_S_S8192 (constantI S_ 32 0#32))) Gen.natLt_1_32)
    (fun a => if h : a < 8192 then (if ∀ n, g n ≠ ⟨a, h⟩ then 1 else 0) else 0)
    (fun c => by
      have hu := uses_apply hi c
      change extui 32 (cmpi .eq (uses i) (broadcastInDim S8192 ![] Gen.bcast_S_S8192 (constantI S_ 32 0#32))) Gen.natLt_1_32 (ix1 c) = _
      pointwise []
      rw [hu]
      by_cases hc : ∀ n, g n ≠ c
      · rw [if_pos hc, Finset.filter_false_of_mem (fun n _ => hc n)]
        rfl
      · rw [if_neg hc]
        obtain ⟨n, hn⟩ := not_forall.1 hc
        have h1 : 0 < (Finset.univ.filter fun n => g n = c).card :=
          Finset.card_pos.2 ⟨n, Finset.mem_filter.2 ⟨Finset.mem_univ _, not_not.1 hn⟩⟩
        have h2 : (Finset.univ.filter fun n => g n = c).card ≤ 8192 := (Finset.card_le_univ _).trans (by simp)
        have h3 : ((BitVec.ofNat 32 (Finset.univ.filter fun n => g n = c).card) == 0#32) = false := by
          rw [beq_eq_false_iff_ne]
          intro e
          have := congrArg BitVec.toNat e
          rw [BitVec.toNat_ofNat, Nat.mod_eq_of_lt (by omega)] at this
          simp only [BitVec.toNat_ofNat, Nat.zero_mod] at this
          omega
        simp only [IntOp.cmpi, h3]
        rfl)
    Gen.reducesTo_S8192_S_d0 Gen.h_S_
  refine h.trans (congrArg (BitVec.ofNat 32) ?_)
  rw [list_sum, Finset.sum_range, Finset.card_filter]
  exact Finset.sum_congr rfl fun c _ => dif_pos c.isLt

end Cert.ReferenceIdeal.Value

end
-- ==== Proof.RefResults.lean ====
/- The reference's four results over the table of rows and the table of codes. -/
module

public import proofs.«01_k».proof.Proof.RefTake

@[expose] public section

set_option maxRecDepth 16384

noncomputable section

namespace Cert.ReferenceIdeal.Value

open Idealize.ShloMosaic Idealize.ShloMosaic.TcCoe Idealize.SL.Sem Cert.ReferenceIdeal

variable (x : FVec Ideal S8x1024x32 .f32) (e : FVec Ideal S8192x32 .f32)

/-- The table of the codes taken. -/
theorem taken_least (n : Fin 8192) (k : Fin 32) :
    taken e (least (dist (rows x) e)) (ix2 n k) = tab e (Coding.code (tab (rows x)) (tab e) n) k :=
  taken_apply e (least_dist (rows x) e) n k

/-- The rows put back in the arguments' layout. -/
theorem rows_back (h : S8192x32.ShapeCasts S8x1024x32) : shapeCast S8x1024x32 (rows x) h = x :=
  shapeCast_comp x _ _ |>.trans (shapeCast_id x _)

/-- The codes taken, in the arguments' layout. -/
theorem coded_eq :
    coded x e = shapeCast S8x1024x32 (fun j : S8192x32.Idx => tab e (Coding.code (tab (rows x)) (tab e) (j 0)) (j 1) : S8192x32.Idx → EReal)
      Gen.shapeCasts_S8192x32_S8x1024x32 := by
  refine congrArg (fun t => shapeCast S8x1024x32 t Gen.shapeCasts_S8192x32_S8x1024x32) (funext fun j => ?_)
  exact (congrArg _ (eq_ix2 j)).trans (taken_least x e (j 0) (j 1))

/-- A row's code less the row, in the arguments' layout. -/
theorem sub_coded (i : S8x1024x32.Idx) :
    subf (coded x e) x i
      = shapeCast S8x1024x32 (fun j : S8192x32.Idx => Coding.move (tab (rows x)) (tab e) (j 0) (j 1) : S8192x32.Idx → EReal) Gen.shapeCasts_S8192x32_S8x1024x32 i := by
  have hx : x i = rows x (Shape.reshapeEquiv Gen.shapeCasts_S8192x32_S8x1024x32 i) :=
    (congrFun (rows_back x Gen.shapeCasts_S8192x32_S8x1024x32) i).symm
  rw [coded_eq]
  refine (congrArg (fun a : EReal => (_ : EReal) - a) hx).trans ?_
  show (_ : EReal) - _ = Coding.move _ _ _ _
  rw [eq_ix2 (Shape.reshapeEquiv Gen.shapeCasts_S8192x32_S8x1024x32 i)]
  rfl

/-- The first result: every row, moved onto its code. -/
theorem out_eq (w : FVec Ideal S8192x32 .f32)
    (hw : ∀ n k, w (ix2 n k) = tab (rows x) n k + Coding.move (tab (rows x)) (tab e) n k) (h : S8192x32.ShapeCasts S8x1024x32) :
    out x (coded x e) = shapeCast S8x1024x32 w h := by
  funext i
  have hx : x i = rows x (Shape.reshapeEquiv Gen.shapeCasts_S8192x32_S8x1024x32 i) :=
    (congrFun (rows_back x Gen.shapeCasts_S8192x32_S8x1024x32) i).symm
  refine (congrArg₂ (fun a b : EReal => a + b) hx (sub_coded x e i)).trans ?_
  refine Eq.trans ?_ ((congrArg w (eq_ix2 (Shape.reshapeEquiv Gen.shapeCasts_S8192x32_S8x1024x32 i))).trans (hw _ _)).symm
  refine congrArg (fun a : EReal => a + _) ?_
  exact congrArg (rows x) (eq_ix2 (Shape.reshapeEquiv Gen.shapeCasts_S8192x32_S8x1024x32 i))

/-- A list of places read as a column. -/
theorem column_cast (p : IVec S8192 32) (h : S8192.ShapeCasts S8192x1) (r : Fin 8192) :
    shapeCast S8192x1 p h (ix2 r 0) = p (ix1 r) := by
  pointwise []

/-- The fourth result: the place every row takes. -/
theorem places_eq (w : IVec S8192x1 32)
    (hw : ∀ n, w (ix2 n 0) = BitVec.ofNat 32 (Coding.code (tab (rows x)) (tab e) n).val) (h : S8192x1.ShapeCasts S8x1024) :
    places x e = shapeCast S8x1024 w h := by
  have hc : S8192.ShapeCasts S8192x1 := by decide
  have e1 : w = shapeCast S8192x1 (least (dist (rows x) e)) hc := by
    funext j
    obtain ⟨r, rfl⟩ : ∃ r : Fin 8192, j = ix2 r 0 := ⟨j 0, by
      rw [eq_ix2 j]
      exact congrArg (ix2 (j 0)) (Subsingleton.elim _ _)⟩
    exact (hw r).trans ((column_cast _ hc r).trans (least_dist (rows x) e r)).symm
  exact ((congrArg (fun p => shapeCast S8x1024 p h) e1).trans (shapeCast_comp _ hc h)).symm

/-- The third result: the number of codes no row took. -/
theorem unused_eq (j : S_.Idx) :
    unused (least (dist (rows x) e)) j = BitVec.ofNat 32 (Coding.unused (tab (rows x)) (tab e)) := by
  generalize hp : least (dist (rows x) e) = p
  have hi : ∀ n, p (ix1 n) = BitVec.ofNat 32 (Coding.code (tab (rows x)) (tab e) n).val := fun n =>
    (congrFun hp (ix1 n)).symm.trans (least_dist (rows x) e n)
  refine (unused_apply hi j).trans ?_
  delta Coding.unused
  refine congrArg (BitVec.ofNat 32) (congrArg Finset.card (Finset.ext fun c => ?_))
  simp only [Finset.mem_filter, Finset.mem_univ, true_and]

/-- The mean of squares from their sum. -/
def mean (s : EReal) : EReal := Ideal.div s (Ideal.ofBits .f32 0x48800000#32)

/-- The mean of the squares of an array laid out from rows. -/
theorem meanSq_apply (d : FVec Ideal S8x1024x32 .f32) (f : Fin 8192 → Fin 32 → EReal)
    (hd : ∀ i, d i * d i = shapeCast S8x1024x32 (fun j : S8192x32.Idx => f (j 0) (j 1) : S8192x32.Idx → EReal) Gen.shapeCasts_S8192x32_S8x1024x32 i) (j : S_.Idx) :
    meanSq d j = mean (∑ n, ∑ k, f n k) := by
  have h1 : Host.reduceAdd (mulf d d) (constant S_ .f32 0x00000000#32) Gen.reducesTo_S8x1024x32_S_d0_1_2 Gen.h_S_ j
      = ∑ n, ∑ k, f n k := by
    refine (Ideal.hostReduceAdd_total Gen.reducesTo_S8x1024x32_S_d0_1_2 (fun b => b.elim0) _ _ j).trans ?_
    have h0 : constant (F := Ideal) S_ .f32 0x00000000#32 (Shape.Idx.first Gen.h_S_) = (0 : EReal) := by
      pointwise []
    rw [h0, zero_add]
    have h2 : ∀ i, mulf d d i = f (Shape.reshapeEquiv Gen.shapeCasts_S8192x32_S8x1024x32 i 0) (Shape.reshapeEquiv Gen.shapeCasts_S8192x32_S8x1024x32 i 1) := hd
    rw [Finset.sum_congr rfl fun i _ => h2 i]
    rw [Fintype.sum_equiv (Shape.reshapeEquiv Gen.shapeCasts_S8192x32_S8x1024x32) _ (fun j : S8192x32.Idx => f (j 0) (j 1)) fun i => rfl]
    exact sum_idx2 _
  show Ideal.div (Host.reduceAdd (mulf d d) (constant S_ .f32 0x00000000#32) Gen.reducesTo_S8x1024x32_S_d0_1_2 Gen.h_S_ j) _ = _
  rw [h1]
  rfl

/-- The second result: the mean square of the moves, and a quarter of it. -/
theorem loss_eq (he : ∀ i, e i ≠ ⊤ ∧ e i ≠ ⊥) (j : S_.Idx) :
    loss x (coded x e) j = mean (∑ n, Coding.sqMove (tab (rows x)) (tab e) n)
      + Ideal.ofBits .f32 0x3E800000#32 * mean (∑ n, Coding.sqMove (tab (rows x)) (tab e) n) := by
  have h1 := meanSq_apply (subf (coded x e) x) (fun n k => Coding.move (tab (rows x)) (tab e) n k * Coding.move (tab (rows x)) (tab e) n k)
    (fun i => by rw [sub_coded]; rfl) j
  have h2 := meanSq_apply (subf x (coded x e)) (fun n k => Coding.move (tab (rows x)) (tab e) n k * Coding.move (tab (rows x)) (tab e) n k)
    (fun i => by
      have hs : ∀ a b : EReal, b ≠ ⊤ → b ≠ ⊥ → (a - b) * (a - b) = (b - a) * (b - a) := by
        intro a b h1 h2
        have h3 : a - b = -(b - a) := by
          rw [EReal.neg_sub (Or.inl h2) (Or.inl h1), add_comm, sub_eq_add_neg]
        rw [h3, neg_mul, mul_neg, neg_neg]
      obtain ⟨n, k, hc⟩ : ∃ n k, coded x e i = e (ix2 n k) := ⟨_, _, congrFun (coded_eq x e) i⟩
      refine (hs (x i) (coded x e i) (hc ▸ (he _).1) (hc ▸ (he _).2)).trans ?_
      refine (congrArg (fun a : EReal => a * a) (sub_coded x e i)).trans ?_
      rfl) j
  exact congrArg₂ (fun a b : EReal => a + Ideal.ofBits .f32 0x3E800000#32 * b) h1 h2

end Cert.ReferenceIdeal.Value

end
-- ==== Proof.Equation.lean ====
/- The kernel's four results are the reference's four results of the same arguments, when every
   entry of the codes is finite. -/
module

public import proofs.«01_k».proof.Defs
public import proofs.«01_k».proof.Proof.Gen.Pre_finite_codes
public import proofs.«01_k».proof.Proof.Tail
public import proofs.«01_k».proof.Proof.Totals
public import proofs.«01_k».proof.Proof.RefResults
public import Idealize.ShloMosaic.Lib.ReduceAll

@[expose] public section

set_option maxRecDepth 16384

noncomputable section

namespace Cert.KernelIdeal.Value

open Idealize.ShloMosaic Idealize.ShloMosaic.TcCoe Idealize.SL.Sem Cert.KernelIdeal Cert.KernelIdeal.Gen
open Idealize.ShloMosaic.Pipeline (Dat)
open Cert.ReferenceIdeal.Value (tab rows)

/-- An entry whose absolute value lies below plus infinity is neither infinity. -/
theorem entry_finite (x : EReal)
    (h : FloatOps.cmpf (F := Ideal) (φ := .f32) .olt (max x (-x) : EReal) (Ideal.ofBits .f32 0x7F800000#32) = 1#1) :
    x ≠ ⊤ ∧ x ≠ ⊥ := by
  have ht : Ideal.ofBits .f32 0x7F800000#32 = (⊤ : EReal) := by simp [Ideal.ofBits, Ideal.ieee]
  have hl : max x (-x) < (⊤ : EReal) := by
    by_contra hn
    have h0 : FloatOps.cmpf (F := Ideal) (φ := .f32) .olt (max x (-x) : EReal) (Ideal.ofBits .f32 0x7F800000#32) = 0#1 := by
      rw [ht]
      show BitVec.ofBool (decide (max x (-x) < (⊤ : EReal))) = 0#1
      rw [decide_eq_false hn]; rfl
    rw [h0] at h
    exact absurd h (by decide)
  refine ⟨fun e => ?_, fun e => ?_⟩
  · rw [e] at hl; simp at hl
  · rw [e] at hl; simp at hl

/-- The precondition says that every entry of the codes is finite. -/
theorem codes_finite (x : FVec Ideal S8x1024x32 .f32) (e : FVec Ideal S8192x32 .f32)
    (h : Cert.Pre_finite_codes.fn (F := Ideal) x e = fun _ => 1#1) (i : S8192x32.Idx) : e i ≠ ⊤ ∧ e i ≠ ⊥ := by
  have h0 := congrFun h (fun a => a.elim0)
  unfold Cert.Pre_finite_codes.fn at h0
  have : Subsingleton Cert.Pre_finite_codes.S_.Idx := ⟨fun a b => funext fun k => k.elim0⟩
  exact entry_finite (e i) (Host.reduce_andi_all _ _ _ _ _ h0 i)

variable (m : (ℓ : Loc nD τ sig) → Buf (Elt Ideal) ℓ) (c : Dev nD)

/-- The kernel's rows and codes, as the reference reads them. -/
abbrev argX : FVec Ideal S8x1024x32 .f32 := m ((c : Thread nD τ).loc main_arg0)
/-- The kernel's codes. -/
abbrev argE : FVec Ideal S8192x32 .f32 := m ((c : Thread nD τ).loc main_arg1)

theorem ztab_eq : tab (rows (argX m c)) = ztab m c := rfl

theorem etab_eq : tab (argE m c) = etab m c := rfl

/-- The first result: the rows moved onto their codes. -/
theorem result_rows (he : ∀ i, argE m c i ≠ ⊤ ∧ argE m c i ≠ ⊥) :
    Pipeline.afterTail₀ cfgs (dats m) 0 (V0 m) [hostOps1] c main_v20
      = Cert.ReferenceIdeal.Value.out (argX m c) (Cert.ReferenceIdeal.Value.coded (argX m c) (argE m c)) := by
  rw [tail_v20]
  obtain ⟨G, hG⟩ : ∃ G : S8192x32.Idx → EReal, ∀ n k, G (ix2 n k) = ztab m c n k + Coding.move (ztab m c) (etab m c) n k :=
    ⟨fun j => ztab m c (j 0) (j 1) + Coding.move (ztab m c) (etab m c) (j 0) (j 1), fun n k => rfl⟩
  rw [final6 m c (fun n k => he _) G hG]
  exact (Cert.ReferenceIdeal.Value.out_eq (argX m c) (argE m c) G hG _).symm

/-- The fourth result: the codes taken. -/
theorem result_places :
    Pipeline.afterTail₀ cfgs (dats m) 0 (V0 m) [hostOps1] c main_v23
      = Cert.ReferenceIdeal.Value.places (argX m c) (argE m c) := by
  rw [tail_v23]
  obtain ⟨G, hG⟩ : ∃ G : S8192x1.Idx → BitVec 32, ∀ n, G (ix2 n 0) = BitVec.ofNat 32 (Coding.code (ztab m c) (etab m c) n).val :=
    ⟨fun j => BitVec.ofNat 32 (Coding.code (ztab m c) (etab m c) (j 0)).val, fun n => rfl⟩
  rw [final7 m c G hG]
  exact (Cert.ReferenceIdeal.Value.places_eq (argX m c) (argE m c) G hG _).symm

/-- The second result: the loss. -/
theorem result_loss (he : ∀ i, argE m c i ≠ ⊤ ∧ argE m c i ≠ ⊥) :
    Pipeline.afterTail₀ cfgs (dats m) 0 (V0 m) [hostOps1] c main_v21
      = Cert.ReferenceIdeal.Value.loss (argX m c) (Cert.ReferenceIdeal.Value.coded (argX m c) (argE m c)) := by
  rw [tail_v21, final8 m c _ (loss_last m c fun n k => he _)]
  funext j
  exact (Cert.ReferenceIdeal.Value.loss_eq (argX m c) (argE m c) he j).symm

/-- The third result: the number of codes no row takes. -/
theorem result_unused :
    Pipeline.afterTail₀ cfgs (dats m) 0 (V0 m) [hostOps1] c main_v22
      = Cert.ReferenceIdeal.Value.unused
          (Cert.ReferenceIdeal.Value.least (Cert.ReferenceIdeal.Value.dist (rows (argX m c)) (argE m c))) := by
  rw [tail_v22, final9 m c _ (unused_last_apply m c)]
  funext j
  exact (Cert.ReferenceIdeal.Value.unused_eq (argX m c) (argE m c) j).symm

end Cert.KernelIdeal.Value

end
-- ==== Proof.lean ====
/- The assembly of `Cert.Claim`: the frames of the three programs, the idealization that changed
   nothing, and the equality of the four results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_codes
public import proofs.«01_k».proof.Proof.RefRun
public import proofs.«01_k».proof.Proof.Equation
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The reference runs to its end and leaves its arguments alone. -/
theorem frame_ReferenceIdeal : Cert.quiescent_ReferenceIdeal := by
  intro m g _
  have h : θ_run Cert.ReferenceIdeal.defs (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) := by
    hlo_run
  exact (θ_run Cert.ReferenceIdeal.defs _ _).mono (fun r h => ⟨h, sem_eq_zero_of_no_sems (by decide) r.2⟩) h

/-- Under the precondition every entry of the codes is finite. -/
theorem codes_finite (m : (ℓ : Loc Cert.KernelIdeal.nD Cert.KernelIdeal.τ Cert.KernelIdeal.sig) → Buf (Elt Ideal) ℓ)
    (hpre : Cert.Pre_KernelIdeal_finite_codes m) (c : Dev Cert.KernelIdeal.nD) (i : Cert.KernelIdeal.S8192x32.Idx) :
    Cert.KernelIdeal.Value.argE m c i ≠ ⊤ ∧ Cert.KernelIdeal.Value.argE m c i ≠ ⊥ :=
  Cert.KernelIdeal.Value.codes_finite _ _ (hpre c) i

set_option maxHeartbeats 1600000 in
/-- Kernel and reference end with the same four results. -/
theorem algebraic : Cert.algebraic_KernelIdeal_ReferenceIdeal_pre_finite_codes := by
  pair_intro
  · run_from Cert.KernelIdeal.Gen.run_main m g
    · exact Cert.KernelIdeal.Gen.W_main_arg0 m _ c
    · exact Cert.KernelIdeal.Gen.W_main_arg1 m _ c
  · refine (θ_run _ _ _).mono (fun r h c => ?_) (Cert.ReferenceIdeal.Value.run m' g')
    obtain ⟨h1, h2, h3, h4, h5, h6⟩ := h c
    obtain ⟨a0, a1⟩ := hagree c
    have he := codes_finite m hpre c
    rw [a0, a1] at h1 h2 h3 h4
    exact ⟨h1.trans (Cert.KernelIdeal.Value.result_rows m c he).symm, h2.trans (Cert.KernelIdeal.Value.result_loss m c he).symm,
      h3.trans (Cert.KernelIdeal.Value.result_unused m c).symm, h4.trans (Cert.KernelIdeal.Value.result_places m c).symm, h5, h6⟩

/-- The five claims together. -/
theorem claim : Cert.Claim :=
  ⟨Cert.Kernel.Gen.facts, Cert.KernelIdeal.Gen.facts, Cert.ReferenceIdeal.Gen.facts, Cert.Pre_finite_codes.Gen.facts,
    fun m g _ => Cert.Kernel.Gen.frame m g, fun m g _ => Cert.KernelIdeal.Gen.frame m g,
    fun m g _ => Cert.KernelIdeal.Gen.frame m g, frame_ReferenceIdeal, fun m g _ => frame_ReferenceIdeal m g trivial, trivial, algebraic⟩

end Cert.Proof

end
